-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![64, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![64, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S3x3x64x1024 : Shape := ⟨4, ![3, 3, 64, 1024]⟩
abbrev S3x64x1024 : Shape := ⟨3, ![3, 64, 1024]⟩
abbrev S3x512x1024 : Shape := ⟨3, ![3, 512, 1024]⟩
abbrev S3x1024x512 : Shape := ⟨3, ![3, 1024, 512]⟩
abbrev S3x3x2 : Shape := ⟨3, ![3, 3, 2]⟩
abbrev S3x3 : Shape := ⟨2, ![3, 3]⟩
abbrev S1x1 : Shape := ⟨2, ![1, 1]⟩
abbrev S_ : Shape := ⟨0, ![]⟩
abbrev S1x512x1024 : Shape := ⟨3, ![1, 512, 1024]⟩
abbrev S1x1024x512 : Shape := ⟨3, ![1, 1024, 512]⟩
abbrev S64x1024 : Shape := ⟨2, ![64, 1024]⟩
abbrev S1x64x1024 : Shape := ⟨3, ![1, 64, 1024]⟩
abbrev S1x1x1 : Shape := ⟨3, ![1, 1, 1]⟩
abbrev S1x1x64x512 : Shape := ⟨4, ![1, 1, 64, 512]⟩
abbrev S1x64x512 : Shape := ⟨3, ![1, 64, 512]⟩
abbrev S1x512x512 : Shape := ⟨3, ![1, 512, 512]⟩
abbrev S512x512 : Shape := ⟨2, ![512, 512]⟩

abbrev nBuf : Space → Nat
  | .hbm => 8
  | .vmem => 7
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S3x3x64x1024, .bf16⟩
  | .local _ .vmem, ⟨2, _⟩ => ⟨S3x64x1024, .bf16⟩
  | .local _ .vmem, ⟨3, _⟩ => ⟨S64x512, .f32⟩
  | .local _ .vmem, ⟨4, _⟩ => ⟨S3x512x1024, .f32⟩
  | .local _ .vmem, ⟨5, _⟩ => ⟨S3x1024x512, .f32⟩
  | .local _ .vmem, ⟨6, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v30 : BitVec 32 := Scalar.addi v2 c1_i32_30
  let c4_i32_31 : BitVec 32 := 4#32
  let v31 : BitVec 32 := Scalar.remsi v30 c4_i32_31
  let c1_i32_33 : BitVec 32 := 1#32
  let v32 : BitVec 32 := Scalar.muli v31 c1_i32_33
  let v33 : BitVec 32 := Scalar.addi c0_i32_34 v32
  v33.toNat
def k0_dev2 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v34 : BitVec 32 := Scalar.addi v2 c2_i32_35
  let c4_i32_36 : BitVec 32 := 4#32
  let v35 : BitVec 32 := Scalar.remsi v34 c4_i32_36
  let c1_i32_38 : BitVec 32 := 1#32
  let v36 : BitVec 32 := Scalar.muli v35 c1_i32_38
  let v37 : BitVec 32 := Scalar.addi c0_i32_39 v36
  v37.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v38 : BitVec 32 := Scalar.addi v2 c3_i32
  let c4_i32_40 : BitVec 32 := 4#32
  let v39 : BitVec 32 := Scalar.remsi v38 c4_i32_40
  let c1_i32_42 : BitVec 32 := 1#32
  let v40 : BitVec 32 := Scalar.muli v39 c1_i32_42
  let v41 : BitVec 32 := Scalar.addi c0_i32_43 v40
  v41.toNat
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_59 : BitVec 32 := 2#32
  let v56 : BitVec 32 := Scalar.addi v2 c2_i32_59
  let c4_i32_60 : BitVec 32 := 4#32
  let v57 : BitVec 32 := Scalar.remsi v56 c4_i32_60
  let c1_i32_70 : BitVec 32 := 1#32
  let v58 : BitVec 32 := Scalar.muli v57 c1_i32_70
  let v59 : BitVec 32 := Scalar.addi c0_i32_71 v58
  v59.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_76 : BitVec 32 := 1#32
  let v68 : BitVec 32 := Scalar.addi v2 c1_i32_76
  let c4_i32_77 : BitVec 32 := 4#32
  let v69 : BitVec 32 := Scalar.remsi v68 c4_i32_77
  let c1_i32_87 : BitVec 32 := 1#32
  let v70 : BitVec 32 := Scalar.muli v69 c1_i32_87
  let v71 : BitVec 32 := Scalar.addi c0_i32_88 v70
  v71.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_93 : BitVec 32 := 3#32
  let v80 : BitVec 32 := Scalar.addi v2 c3_i32_93
  let c4_i32_94 : BitVec 32 := 4#32
  let v81 : BitVec 32 := Scalar.remsi v80 c4_i32_94
  let c1_i32_104 : BitVec 32 := 1#32
  let v82 : BitVec 32 := Scalar.muli v81 c1_i32_104
  let v83 : BitVec 32 := Scalar.addi c0_i32_105 v82
  v83.toNat
def k0_dev7 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_110 : BitVec 32 := 2#32
  let v92 : BitVec 32 := Scalar.addi v2 c2_i32_110
  let c4_i32_111 : BitVec 32 := 4#32
  let v93 : BitVec 32 := Scalar.remsi v92 c4_i32_111
  let c1_i32_121 : BitVec 32 := 1#32
  let v94 : BitVec 32 := Scalar.muli v93 c1_i32_121
  let v95 : BitVec 32 := Scalar.addi c0_i32_122 v94
  v95.toNat
def k0_dev8 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_126 : BitVec 32 := 1#32
  let v104 : BitVec 32 := Scalar.addi v2 c1_i32_126
  let c4_i32_127 : BitVec 32 := 4#32
  let v105 : BitVec 32 := Scalar.remsi v104 c4_i32_127
  let c1_i32_137 : BitVec 32 := 1#32
  let v106 : BitVec 32 := Scalar.muli v105 c1_i32_137
  let v107 : BitVec 32 := Scalar.addi c0_i32_138 v106
  v107.toNat
def k0_dev9 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v116 : BitVec 32 := Scalar.addi v2 c3_i32_143
  let c4_i32_144 : BitVec 32 := 4#32
  let v117 : BitVec 32 := Scalar.remsi v116 c4_i32_144
  let c1_i32_154 : BitVec 32 := 1#32
  let v118 : BitVec 32 := Scalar.muli v117 c1_i32_154
  let v119 : BitVec 32 := Scalar.addi c0_i32_155 v118
  v119.toNat
def k0_dev10 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_383 : BitVec 32 := 2#32
  let v266 : BitVec 32 := Scalar.addi v2 c2_i32_383
  let c4_i32_384 : BitVec 32 := 4#32
  let v267 : BitVec 32 := Scalar.remsi v266 c4_i32_384
  let c1_i32_394 : BitVec 32 := 1#32
  let v268 : BitVec 32 := Scalar.muli v267 c1_i32_394
  let v269 : BitVec 32 := Scalar.addi c0_i32_395 v268
  v269.toNat
def k0_dev11 (d0 : Dev nD) : Nat :=
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_400 : BitVec 32 := 1#32
  let v278 : BitVec 32 := Scalar.addi v2 c1_i32_400
  let c4_i32_401 : BitVec 32 := 4#32
  let v279 : BitVec 32 := Scalar.remsi v278 c4_i32_401
  let c1_i32_411 : BitVec 32 := 1#32
  let v280 : BitVec 32 := Scalar.muli v279 c1_i32_411
  let v281 : BitVec 32 := Scalar.addi c0_i32_412 v280
  v281.toNat
def k0_dev12 (d0 : Dev nD) : Nat :=
  let c0_i32_429 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_417 : BitVec 32 := 3#32
  let v290 : BitVec 32 := Scalar.addi v2 c3_i32_417
  let c4_i32_418 : BitVec 32 := 4#32
  let v291 : BitVec 32 := Scalar.remsi v290 c4_i32_418
  let c1_i32_428 : BitVec 32 := 1#32
  let v292 : BitVec 32 := Scalar.muli v291 c1_i32_428
  let v293 : BitVec 32 := Scalar.addi c0_i32_429 v292
  v293.toNat
def k0_dev13 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_434 : BitVec 32 := 2#32
  let v302 : BitVec 32 := Scalar.addi v2 c2_i32_434
  let c4_i32_435 : BitVec 32 := 4#32
  let v303 : BitVec 32 := Scalar.remsi v302 c4_i32_435
  let c1_i32_445 : BitVec 32 := 1#32
  let v304 : BitVec 32 := Scalar.muli v303 c1_i32_445
  let v305 : BitVec 32 := Scalar.addi c0_i32_446 v304
  v305.toNat
def k0_dev14 (d0 : Dev nD) : Nat :=
  let c0_i32_463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_451 : BitVec 32 := 1#32
  let v314 : BitVec 32 := Scalar.addi v2 c1_i32_451
  let c4_i32_452 : BitVec 32 := 4#32
  let v315 : BitVec 32 := Scalar.remsi v314 c4_i32_452
  let c1_i32_462 : BitVec 32 := 1#32
  let v316 : BitVec 32 := Scalar.muli v315 c1_i32_462
  let v317 : BitVec 32 := Scalar.addi c0_i32_463 v316
  v317.toNat
def k0_dev15 (d0 : Dev nD) : Nat :=
  let c0_i32_480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_468 : BitVec 32 := 3#32
  let v326 : BitVec 32 := Scalar.addi v2 c3_i32_468
  let c4_i32_469 : BitVec 32 := 4#32
  let v327 : BitVec 32 := Scalar.remsi v326 c4_i32_469
  let c1_i32_479 : BitVec 32 := 1#32
  let v328 : BitVec 32 := Scalar.muli v327 c1_i32_479
  let v329 : BitVec 32 := Scalar.addi c0_i32_480 v328
  v329.toNat
def k0_dev16 (d0 : Dev nD) : Nat :=
  let c0_i32_723 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_711 : BitVec 32 := 2#32
  let v476 : BitVec 32 := Scalar.addi v2 c2_i32_711
  let c4_i32_712 : BitVec 32 := 4#32
  let v477 : BitVec 32 := Scalar.remsi v476 c4_i32_712
  let c1_i32_722 : BitVec 32 := 1#32
  let v478 : BitVec 32 := Scalar.muli v477 c1_i32_722
  let v479 : BitVec 32 := Scalar.addi c0_i32_723 v478
  v479.toNat
def k0_dev17 (d0 : Dev nD) : Nat :=
  let c0_i32_740 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_728 : BitVec 32 := 1#32
  let v488 : BitVec 32 := Scalar.addi v2 c1_i32_728
  let c4_i32_729 : BitVec 32 := 4#32
  let v489 : BitVec 32 := Scalar.remsi v488 c4_i32_729
  let c1_i32_739 : BitVec 32 := 1#32
  let v490 : BitVec 32 := Scalar.muli v489 c1_i32_739
  let v491 : BitVec 32 := Scalar.addi c0_i32_740 v490
  v491.toNat
def k0_dev18 (d0 : Dev nD) : Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_745 : BitVec 32 := 3#32
  let v500 : BitVec 32 := Scalar.addi v2 c3_i32_745
  let c4_i32_746 : BitVec 32 := 4#32
  let v501 : BitVec 32 := Scalar.remsi v500 c4_i32_746
  let c1_i32_756 : BitVec 32 := 1#32
  let v502 : BitVec 32 := Scalar.muli v501 c1_i32_756
  let v503 : BitVec 32 := Scalar.addi c0_i32_757 v502
  v503.toNat
def k0_dev19 (d0 : Dev nD) : Nat :=
  let c0_i32_774 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_762 : BitVec 32 := 2#32
  let v512 : BitVec 32 := Scalar.addi v2 c2_i32_762
  let c4_i32_763 : BitVec 32 := 4#32
  let v513 : BitVec 32 := Scalar.remsi v512 c4_i32_763
  let c1_i32_773 : BitVec 32 := 1#32
  let v514 : BitVec 32 := Scalar.muli v513 c1_i32_773
  let v515 : BitVec 32 := Scalar.addi c0_i32_774 v514
  v515.toNat
def k0_dev20 (d0 : Dev nD) : Nat :=
  let c0_i32_791 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_779 : BitVec 32 := 1#32
  let v524 : BitVec 32 := Scalar.addi v2 c1_i32_779
  let c4_i32_780 : BitVec 32 := 4#32
  let v525 : BitVec 32 := Scalar.remsi v524 c4_i32_780
  let c1_i32_790 : BitVec 32 := 1#32
  let v526 : BitVec 32 := Scalar.muli v525 c1_i32_790
  let v527 : BitVec 32 := Scalar.addi c0_i32_791 v526
  v527.toNat
def k0_dev21 (d0 : Dev nD) : Nat :=
  let c0_i32_808 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_796 : BitVec 32 := 3#32
  let v536 : BitVec 32 := Scalar.addi v2 c3_i32_796
  let c4_i32_797 : BitVec 32 := 4#32
  let v537 : BitVec 32 := Scalar.remsi v536 c4_i32_797
  let c1_i32_807 : BitVec 32 := 1#32
  let v538 : BitVec 32 := Scalar.muli v537 c1_i32_807
  let v539 : BitVec 32 := Scalar.addi c0_i32_808 v538
  v539.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S64x2048 : Shape := ⟨2, ![64, 2048]⟩
abbrev S2048x1024 : Shape := ⟨2, ![2048, 1024]⟩
abbrev S1024x2048 : Shape := ⟨2, ![1024, 2048]⟩
abbrev S64x1024 : Shape := ⟨2, ![64, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x1024, .f32⟩
  | .hbm, ⟨2, _⟩ => ⟨S1024x2048, .f32⟩
  | .hbm, ⟨3, _⟩ => ⟨S2048x1024, .f32⟩
  | .hbm, ⟨4, _⟩ => ⟨S1024x2048, .f32⟩
  | .hbm, ⟨5, _⟩ => ⟨S2048x1024, .f32⟩
  | .hbm, ⟨6, _⟩ => ⟨S1024x2048, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S64x2048, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S64x2048, .f32⟩
  | .hbm, ⟨17, _⟩ => ⟨S64x1024, .f32⟩
  | .hbm, ⟨18, _⟩ => ⟨S_, .f32⟩
  | .hbm, ⟨19, _⟩ => ⟨S64x1024, .f32⟩
  | .hbm, ⟨20, _⟩ => ⟨S64x1024, .f32⟩
  | .hbm, ⟨21, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Program.lean ====
/-
The kernel's body, layer by layer.

The printed body writes three layers out one after another, every transfer with the literal offsets of its layer, slot
and half. Here one layer is written once, at a symbolic layer `l`, slot `s` and half `h`, and `body_eq` says that the
printed body is: the prologue (the local copies, the barrier, the wait for the activation), the layer at `0`, `1` and
`2`, and the store of the result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.Mlp

open Cert.KernelIdeal Cert.KernelIdeal.Gen

open Idealize.ShloMosaic
open Idealize.ShloMosaic.TcCoe
open Idealize.SL Idealize.SL.Sem

variable {F : FTy → Type} [FloatOps F]

/-! ## The mesh -/

/-- The device `k` places after `c`. -/
def peer (c : Dev nD) (k : Fin 4) : Dev nD := c + k

/-- The transfer of index `j` goes `j + 1` places on. -/
def step (j : Fin 3) : Fin 4 := j.succ

/-! ## Views, at a symbolic layer, slot and half -/

/-- The buffers: the activation, the two weight stacks, what is sent, what is received, the staged result. -/
abbrev xM : Memref sig .tc .vmem S64x512 .f32 := Memref.whole cc0_scratch2
abbrev winM : Memref sig .tc .vmem S3x512x1024 .f32 := Memref.whole cc0_scratch3
abbrev woutM : Memref sig .tc .vmem S3x1024x512 .f32 := Memref.whole cc0_scratch4
abbrev sbM : Memref sig .tc .vmem S3x64x1024 .bf16 := Memref.whole cc0_scratch1
abbrev commM : Memref sig .tc .vmem S3x3x64x1024 .bf16 := Memref.whole cc0_scratch0
abbrev oM : Memref sig .tc .vmem S64x512 .f32 := Memref.whole cc0_stg0_0

/-- The argument arrays of the activation, and of layer `l`'s two weights. -/
abbrev xArg : Memref sig .tc .hbm S64x512 .f32 := Memref.whole main_arg0
def winArg : Fin 3 → Memref sig .tc .hbm S512x1024 .f32
  | 0 => Memref.whole main_arg1 | 1 => Memref.whole main_arg3 | 2 => Memref.whole main_arg5
def woutArg : Fin 3 → Memref sig .tc .hbm S1024x512 .f32
  | 0 => Memref.whole main_arg2 | 1 => Memref.whole main_arg4 | 2 => Memref.whole main_arg6

theorem winArg_whole (l : Fin 3) : (winArg l).IsWhole := by
  fin_cases l <;> exact Memref.isWhole_whole _
theorem woutArg_whole (l : Fin 3) : (woutArg l).IsWhole := by
  fin_cases l <;> exact Memref.isWhole_whole _

theorem inbWin (l : Fin 3) : ∀ a, (![l.val, 0, 0] : Fin 3 → Nat) a + S1x512x1024.size a ≤ S3x512x1024.size a := by
  revert l; decide
theorem inbWout (l : Fin 3) : ∀ a, (![l.val, 0, 0] : Fin 3 → Nat) a + S1x1024x512.size a ≤ S3x1024x512.size a := by
  revert l; decide
theorem inbWoutH (l : Fin 3) (h : Fin 2) : ∀ a, (![l.val, 512 * h.val, 0] : Fin 3 → Nat) a + S1x512x512.size a ≤ S3x1024x512.size a := by
  revert l h; decide
theorem inbSbL (l : Fin 3) : ∀ a, (![l.val, 0, 0] : Fin 3 → Nat) a + S1x64x1024.size a ≤ S3x64x1024.size a := by
  revert l; decide
theorem inbSb (l : Fin 3) (h : Fin 2) : ∀ a, (![l.val, 0, 512 * h.val] : Fin 3 → Nat) a + S1x64x512.size a ≤ S3x64x1024.size a := by
  revert l h; decide
theorem inbComm (l s : Fin 3) (h : Fin 2) : ∀ a, (![l.val, s.val, 0, 512 * h.val] : Fin 4 → Nat) a + S1x1x64x512.size a ≤ S3x3x64x1024.size a := by
  revert l s h; decide
theorem inbSem (l j : Fin 3) (h : Fin 2) : ∀ a, (![l.val, j.val, h.val] : Fin 3 → Nat) a + S1x1x1.size a ≤ S3x3x2.size a := by
  revert l j h; decide
theorem inbW (k l : Fin 3) : ∀ a, (![k.val, l.val] : Fin 2 → Nat) a + S1x1.size a ≤ S3x3.size a := by
  revert k l; decide

abbrev winR (l : Fin 3) : Rect S3x512x1024 := Rect.unit (s := S3x512x1024) ![l.val, 0, 0] S1x512x1024.size (inbWin l)
abbrev woutR (l : Fin 3) : Rect S3x1024x512 := Rect.unit (s := S3x1024x512) ![l.val, 0, 0] S1x1024x512.size (inbWout l)
abbrev woutHR (l : Fin 3) (h : Fin 2) : Rect S3x1024x512 := Rect.unit (s := S3x1024x512) ![l.val, 512 * h.val, 0] S1x512x512.size (inbWoutH l h)
abbrev sbLR (l : Fin 3) : Rect S3x64x1024 := Rect.unit (s := S3x64x1024) ![l.val, 0, 0] S1x64x1024.size (inbSbL l)
abbrev sbR (l : Fin 3) (h : Fin 2) : Rect S3x64x1024 := Rect.unit (s := S3x64x1024) ![l.val, 0, 512 * h.val] S1x64x512.size (inbSb l h)
abbrev commR (l s : Fin 3) (h : Fin 2) : Rect S3x3x64x1024 := Rect.unit (s := S3x3x64x1024) ![l.val, s.val, 0, 512 * h.val] S1x1x64x512.size (inbComm l s h)

theorem sbLR_packed (l : Fin 3) : (sbLR l).PackedRows (EltTy.packing .bf16) := by
  fin_cases l
  · exact packedbf16_S3x64x1024_S1x64x1024_0_0_0
  · exact packedbf16_S3x64x1024_S1x64x1024_1_0_0
  · exact packedbf16_S3x64x1024_S1x64x1024_2_0_0
theorem sbR_words (l : Fin 3) (h : Fin 2) : (sbR l h).WholeWords (EltTy.packing .bf16) := by
  revert l h; decide
theorem commR_words (l s : Fin 3) (h : Fin 2) : (commR l s h).WholeWords (EltTy.packing .bf16) := by
  revert l s h; decide

/-- Layer `l`'s plane of each weight stack. -/
def winV (l : Fin 3) : Memref sig .tc .vmem S512x1024 .f32 :=
  (winM.slice (winR l) (fun _ => rfl)).squeeze S512x1024 squeezes_S1x512x1024_S512x1024
def woutV (l : Fin 3) : Memref sig .tc .vmem S1024x512 .f32 :=
  (woutM.slice (woutR l) (fun _ => rfl)).squeeze S1024x512 squeezes_S1x1024x512_S1024x512
/-- Half `h` of the columns that layer `l` sends. -/
def sbV (l : Fin 3) (h : Fin 2) : Memref sig .tc .vmem S64x512 .bf16 :=
  (sbM.slice (sbR l h) (fun _ => rfl)).squeeze S64x512 squeezes_S1x64x512_S64x512
/-- Half `h` of the columns of the slot `s` that layer `l` receives in. -/
def commV (l s : Fin 3) (h : Fin 2) : Memref sig .tc .vmem S64x512 .bf16 :=
  (commM.slice (commR l s h) (fun _ => rfl)).squeeze S64x512 squeezes_S1x1x64x512_S64x512

theorem sbV_words (l : Fin 3) (h : Fin 2) : (sbV l h).view.WordExact :=
  ((Memref.isWhole_whole cc0_scratch1).wordExact_slice rfl _ (sbR_words l h)).reshape _ _
theorem commV_words (l s : Fin 3) (h : Fin 2) : (commV l s h).view.WordExact :=
  ((Memref.isWhole_whole cc0_scratch0).wordExact_slice rfl _ (commR_words l s h)).reshape _ _
theorem winV_words (l : Fin 3) : (winV l).view.WordExact := (View.wordExact_bits rfl).reshape _ _
theorem woutV_words (l : Fin 3) : (woutV l).view.WordExact := (View.wordExact_bits rfl).reshape _ _

/-! ## Semaphores -/

abbrev barS : Sem sig := (SemArray.scalar (sig.barrier 0 rfl) : Sems sig S_).sem
def sendS (l j : Fin 3) (h : Fin 2) : DmaSem sig :=
  ((cc0_scratch6.slice (Rect.unit (s := S3x3x2) ![l.val, j.val, h.val] S1x1x1.size (inbSem l j h))).squeeze S_ squeezes_S1x1x1_S_ : DmaSems sig S_).sem
def recvS (l s : Fin 3) (h : Fin 2) : DmaSem sig :=
  ((cc0_scratch7.slice (Rect.unit (s := S3x3x2) ![l.val, s.val, h.val] S1x1x1.size (inbSem l s h))).squeeze S_ squeezes_S1x1x1_S_ : DmaSems sig S_).sem
/-- The local copies' semaphores: row `0` for the first weights, `1` for the second, `2` for the activation. -/
def wS (k l : Fin 3) : DmaSem sig :=
  ((cc0_scratch8.slice (Rect.unit (s := S3x3) ![k.val, l.val] S1x1.size (inbW k l))).squeeze S_ squeezes_S1x1_S_ : DmaSems sig S_).sem

/-! ## The program -/

/-- Programs of the kernel's core. -/
abbrev KProg (F : FTy → Type) := Prog (TpuEff nD τ sig (Elt F) Λ₀ .tc)

/-- The slot, on the receiving device, of the transfer of index `j`. -/
abbrev slot (j : Fin 3) : Fin 3 := Fin.rev j

def copyX : KProg F PUnit :=
  Prog.lift (.enqueueDma xArg (.here xM) (.dma (wS 2 0)) (Memref.isWhole_whole _).wordExact (Memref.isWhole_whole _).wordExact ⟨Or.inl rfl, trivial⟩)
def copyWin (l : Fin 3) : KProg F PUnit :=
  Prog.lift (.enqueueDma (winArg l) (.here (winV l)) (.dma (wS 0 l)) (winArg_whole l).wordExact (winV_words l) ⟨Or.inl rfl, trivial⟩)
def copyWout (l : Fin 3) : KProg F PUnit :=
  Prog.lift (.enqueueDma (woutArg l) (.here (woutV l)) (.dma (wS 1 l)) (woutArg_whole l).wordExact (woutV_words l) ⟨Or.inl rfl, trivial⟩)
def waitX : KProg F PUnit :=
  Prog.lift (.waitDma2 (wS 2 0) xArg xM (Memref.isWhole_whole _).wordExact (Memref.isWhole_whole _).wordExact)
def waitWin (l : Fin 3) : KProg F PUnit :=
  Prog.lift (.waitDma2 (wS 0 l) (winArg l) (winV l) (winArg_whole l).wordExact (winV_words l))
def waitWout (l : Fin 3) : KProg F PUnit :=
  Prog.lift (.waitDma2 (wS 1 l) (woutArg l) (woutV l) (woutArg_whole l).wordExact (woutV_words l))
def loadX : KProg F (Vec F S64x512 .f32) :=
  Prog.lift (.load xM (Rect.unit (s := S64x512) ![0, 0] S64x512.size inb_S64x512_S64x512_0_0).toLoadRect (View.loadsAt_vmem h_S64x512))
def loadWin (l : Fin 3) : KProg F (Vec F S1x512x1024 .f32) :=
  Prog.lift (.load winM (winR l).toLoadRect (View.loadsAt_vmem h_S1x512x1024))
def loadWout (l : Fin 3) (h : Fin 2) : KProg F (Vec F S1x512x512 .f32) :=
  Prog.lift (.load woutM (woutHR l h).toLoadRect (View.loadsAt_vmem h_S1x512x512))
def loadSb (l : Fin 3) : KProg F (Vec F S1x64x1024 .bf16) :=
  Prog.lift (.load sbM (sbLR l).toLoadRect (View.loadsAt_vmem h_S1x64x1024))
def storeSb (l : Fin 3) (v : Vec F S1x64x1024 .bf16) : KProg F PUnit :=
  Prog.lift (.store sbM (sbLR l) v Finset.univ (View.stores_vmem h_S1x64x1024 ((Memref.isWhole_whole cc0_scratch1).storeExact_slice rfl _ (sbLR_packed l)) (fun _ => rfl)) (.inl rfl))
def send (l : Fin 3) (tg : Dev nD) (j : Fin 3) (h : Fin 2) : KProg F PUnit :=
  Prog.lift (.enqueueDma (sbV l h) (.remote (Dev.tc tg) (commV l (slot j) h) (.dma (sendS l j h))) (.dma (recvS l (slot j) h)) (sbV_words l h) (commV_words l (slot j) h) ⟨⟨rfl, Or.inl rfl⟩, trivial⟩)
def waitRecv (l s : Fin 3) (h : Fin 2) : KProg F PUnit :=
  Prog.lift (.waitDma2 (recvS l s h) (sbV l h) (commV l s h) (sbV_words l h) (commV_words l s h))
def loadComm (l s : Fin 3) (h : Fin 2) : KProg F (Vec F S1x1x64x512 .bf16) :=
  Prog.lift (.load commM (commR l s h).toLoadRect (View.loadsAt_vmem h_S1x1x64x512))
def waitSend (l j : Fin 3) (h : Fin 2) : KProg F PUnit :=
  Prog.lift (.waitDma2 (sendS l j h) (commV l (slot j) h) (sbV l h) (commV_words l (slot j) h) (sbV_words l h))

/-- What a layer leaves, from its own partial product `p`, the halves received in the slots (`a s`, `b s`), and the two
    halves of its second weight. -/
def layerVal (p : FVec F S64x1024 .f32) (a b : Fin 3 → Vec F S1x1x64x512 .bf16) (w₀ w₁ : Vec F S1x512x512 .f32) : FVec F S64x512 .f32 :=
  k0_pay9 (k0_pay6 k0_pay3 (k0_pay5 (k0_pay4 p) (a 2) (a 0)) (a 1) w₀) (k0_pay8 (k0_pay7 p (b 2)) (b 0) (b 1)) w₁

/-- One layer, at layer `l`, from the activation `x`; `tg h j` is the device that the transfer of index `j`, half `h`, goes to. -/
def layer (tg : Fin 2 → Fin 3 → Dev nD) (l : Fin 3) (x : FVec F S64x512 .f32) : KProg F (FVec F S64x512 .f32) := do
  waitWin l
  let w ← loadWin l
  let _ ← loadSb l
  storeSb l (k0_pay2 x w)
  send l (tg 0 1) 1 0
  send l (tg 0 0) 0 0
  send l (tg 0 2) 2 0
  send l (tg 1 1) 1 1
  send l (tg 1 0) 0 1
  send l (tg 1 2) 2 1
  waitWout l
  waitRecv l 2 0
  let a₂ ← loadComm l 2 0
  waitRecv l 0 0
  let a₀ ← loadComm l 0 0
  waitRecv l 1 0
  let a₁ ← loadComm l 1 0
  let w₀ ← loadWout l 0
  waitRecv l 2 1
  let b₂ ← loadComm l 2 1
  waitRecv l 0 1
  let b₀ ← loadComm l 0 1
  waitRecv l 1 1
  let b₁ ← loadComm l 1 1
  let w₁ ← loadWout l 1
  waitSend l 1 0
  waitSend l 0 0
  waitSend l 2 0
  waitSend l 1 1
  waitSend l 0 1
  waitSend l 2 1
  pure (layerVal (k0_pay1 x w) ![a₀, a₁, a₂] ![b₀, b₁, b₂] w₀ w₁)

/-- The local copies, a unit for each peer's barrier (`tg j` the device that the signal of index `j` goes to), the wait
    for the three peers', and the activation. -/
def prologue (tg : Fin 3 → Dev nD) : KProg F (Vec F S64x512 .f32) := do
  copyX
  copyWin 0
  copyWout 0
  copyWin 1
  copyWout 1
  copyWin 2
  copyWout 2
  semSignalWord (tg 0) barS 1#32
  semSignalWord (tg 1) barS 1#32
  semSignalWord (tg 2) barS 1#32
  semWaitWord barS 3#32
  waitX
  loadX

def epilogue (v : FVec F S64x512 .f32) : KProg F PUnit := do
  let _ ← (Prog.lift (.load oM (Rect.unit (s := S64x512) ![0, 0] S64x512.size inb_S64x512_S64x512_0_0).toLoadRect (View.loadsAt_vmem h_S64x512)) : KProg F (Vec F S64x512 .f32))
  Prog.lift (.store oM (Rect.unit (s := S64x512) ![0, 0] S64x512.size inb_S64x512_S64x512_0_0) v Finset.univ (View.stores_vmem_bits_univ h_S64x512 rfl) (.inl rfl))
  pure ⟨⟩

/-- The devices that layer `l` sends to, as the kernel computes them. -/
def tgts (c : Dev nD) : Fin 3 → Fin 2 → Fin 3 → Dev nD
  | 0, 0, 1 => ⟨k0_dev4 c, k0_dev4_lt c⟩ | 0, 0, 0 => ⟨k0_dev5 c, k0_dev5_lt c⟩ | 0, 0, 2 => ⟨k0_dev6 c, k0_dev6_lt c⟩
  | 0, 1, 1 => ⟨k0_dev7 c, k0_dev7_lt c⟩ | 0, 1, 0 => ⟨k0_dev8 c, k0_dev8_lt c⟩ | 0, 1, 2 => ⟨k0_dev9 c, k0_dev9_lt c⟩
  | 1, 0, 1 => ⟨k0_dev10 c, k0_dev10_lt c⟩ | 1, 0, 0 => ⟨k0_dev11 c, k0_dev11_lt c⟩ | 1, 0, 2 => ⟨k0_dev12 c, k0_dev12_lt c⟩
  | 1, 1, 1 => ⟨k0_dev13 c, k0_dev13_lt c⟩ | 1, 1, 0 => ⟨k0_dev14 c, k0_dev14_lt c⟩ | 1, 1, 2 => ⟨k0_dev15 c, k0_dev15_lt c⟩
  | 2, 0, 1 => ⟨k0_dev16 c, k0_dev16_lt c⟩ | 2, 0, 0 => ⟨k0_dev17 c, k0_dev17_lt c⟩ | 2, 0, 2 => ⟨k0_dev18 c, k0_dev18_lt c⟩
  | 2, 1, 1 => ⟨k0_dev19 c, k0_dev19_lt c⟩ | 2, 1, 0 => ⟨k0_dev20 c, k0_dev20_lt c⟩ | 2, 1, 2 => ⟨k0_dev21 c, k0_dev21_lt c⟩

/-- The devices whose barriers the kernel signals, as it computes them. -/
def bars (c : Dev nD) : Fin 3 → Dev nD
  | 0 => ⟨k0_dev1 c, k0_dev1_lt c⟩ | 1 => ⟨k0_dev2 c, k0_dev2_lt c⟩ | 2 => ⟨k0_dev3 c, k0_dev3_lt c⟩

theorem bars_eq (c : Dev nD) : bars c = fun j => peer c (step j) := by
  funext j
  fin_cases j <;> refine Fin.ext ?_
  · exact k0_dev1_eq c
  · exact k0_dev2_eq c
  · exact k0_dev3_eq c

theorem tgts_eq (c : Dev nD) (l : Fin 3) : tgts c l = fun _ j => peer c (step j) := by
  funext h j
  fin_cases l <;> fin_cases h <;> fin_cases j <;> refine Fin.ext ?_
  · exact k0_dev5_eq c
  · exact k0_dev4_eq c
  · exact k0_dev6_eq c
  · exact k0_dev8_eq c
  · exact k0_dev7_eq c
  · exact k0_dev9_eq c
  · exact k0_dev11_eq c
  · exact k0_dev10_eq c
  · exact k0_dev12_eq c
  · exact k0_dev14_eq c
  · exact k0_dev13_eq c
  · exact k0_dev15_eq c
  · exact k0_dev17_eq c
  · exact k0_dev16_eq c
  · exact k0_dev18_eq c
  · exact k0_dev20_eq c
  · exact k0_dev19_eq c
  · exact k0_dev21_eq c

/-- The printed body is the prologue, the three layers and the store. -/
theorem body_eq :
    (cc0_body xArg (Memref.isWhole_whole _) (Memref.whole main_arg1) (Memref.isWhole_whole _) (Memref.whole main_arg2) (Memref.isWhole_whole _)
      (Memref.whole main_arg3) (Memref.isWhole_whole _) (Memref.whole main_arg4) (Memref.isWhole_whole _) (Memref.whole main_arg5) (Memref.isWhole_whole _)
      (Memref.whole main_arg6) (Memref.isWhole_whole _) oM (Memref.isWhole_whole _) commM (Memref.isWhole_whole _) sbM (Memref.isWhole_whole _)
      xM (Memref.isWhole_whole _) winM (Memref.isWhole_whole _) woutM (Memref.isWhole_whole _) (Memref.whole cc0_scratch5) (Memref.isWhole_whole _)
      cc0_scratch6 cc0_scratch7 cc0_scratch8 : KProg F PUnit)
      = (do
        let c ← Prog.lift .deviceId
        let x₀ ← prologue fun j => peer c (step j)
        let x₁ ← layer (fun _ j => peer c (step j)) 0 x₀
        let x₂ ← layer (fun _ j => peer c (step j)) 1 x₁
        let x₃ ← layer (fun _ j => peer c (step j)) 2 x₂
        epilogue x₃) := by
  have h : (fun c : Dev nD => (do
        let x₀ ← prologue fun j => peer c (step j)
        let x₁ ← layer (fun _ j => peer c (step j)) 0 x₀
        let x₂ ← layer (fun _ j => peer c (step j)) 1 x₁
        let x₃ ← layer (fun _ j => peer c (step j)) 2 x₂
        epilogue x₃ : KProg F PUnit))
      = fun c => (do
        let x₀ ← prologue (bars c)
        let x₁ ← layer (tgts c 0) 0 x₀
        let x₂ ← layer (tgts c 1) 1 x₁
        let x₃ ← layer (tgts c 2) 2 x₂
        epilogue x₃) := by
    funext c; rw [bars_eq, tgts_eq, tgts_eq, tgts_eq]
  rw [h]
  rfl

end Cert.Mlp
-- ==== Proof.Schedule.lean ====
/-
The protocol of the kernel: its cells, what each landing hands over, and the contents it hands over at.

Per device: a barrier cell that the three peers each signal once, one cell for the copy of the activation, and, per
layer, a cell for each of the two weights' copies, six send cells and six receive cells (an index `0..2` and a half
`0..1` each). Every cell has one round.

* The barrier duty `j` of device `c` is paid by the device whose transfers of index `rev j` device `c` pays: it hands
  `c` the slot `j` of that device's receive buffer, all three layers and both halves.
* The receive duty `(l, s, h)` of `c` is paid by the device `s + 1` places after `c`: half `h` of the columns of that device's
  partial product of layer `l`.
* The send duty returns the third of the sent half that the transfer read; a local copy hands over its source and the
  destination filled.
-/
module

public import proofs.«01_k».proof.Proof.Program
public import Idealize.ShloMosaic.Lib.Pipeline.Launch
public import Idealize.ShloMosaic.Lib.Pipeline.Kit
public import Idealize.ShloMosaic.Lib.Ring.Trips
public import Idealize.ShloMosaic.Lib.Tactic
public import Mathlib.Tactic.DeriveFintype

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- The contents a device's buffer under a view has at launch. -/
abbrev ini (c : Dev nD) {sp : Space} {s : Shape} {e : EltTy} (M : Memref sig .tc sp s e) : Buf (Elt F) (M.view.loc (c : Thread nD τ)) :=
  m (M.view.loc (c : Thread nD τ))

/-- The activation device `c` starts from: its block of the argument. -/
def x₀ (c : Dev nD) : FVec F S64x512 .f32 := xArg.view.read (Elt F) (ini m c xArg)

/-- The stack of first weights once layer `l`'s plane has landed (elsewhere, as at launch), and what a load of that plane reads. -/
def winBuf (l : Fin 3) (c : Dev nD) : Buf (Elt F) ((winV l).view.loc (c : Thread nD τ)) :=
  (winV l).view.write (Elt F) (ini m c (winV l)) ((winArg l).view.read (Elt F) (ini m c (winArg l))) Finset.univ
def winLd (l : Fin 3) (c : Dev nD) : Vec F S1x512x1024 .f32 := winM.view.readAt (Elt F) (winR l).toLoadRect (winBuf m l c)

/-- The same for the second weights, read a half of the rows at a time. -/
def woutBuf (l : Fin 3) (c : Dev nD) : Buf (Elt F) ((woutV l).view.loc (c : Thread nD τ)) :=
  (woutV l).view.write (Elt F) (ini m c (woutV l)) ((woutArg l).view.read (Elt F) (ini m c (woutArg l))) Finset.univ
def woutLd (l : Fin 3) (h : Fin 2) (c : Dev nD) : Vec F S1x512x512 .f32 := woutM.view.readAt (Elt F) (woutHR l h).toLoadRect (woutBuf m l c)

/-- The send buffer of device `c` once layer `l`'s plane is stored, from the activations `X`. -/
def sbBufOf (X : Dev nD → FVec F S64x512 .f32) (l : Fin 3) (c : Dev nD) : Buf (Elt F) ((sbM.access (sbLR l)).loc (c : Thread nD τ)) :=
  (sbM.access (sbLR l)).write (Elt F) (ini m c sbM) (k0_pay2 (X c) (winLd m l c)) Finset.univ

/-- Slot `s`, half `h` of device `c`'s receive buffer once it has landed, and what a load of it reads. -/
def commBufOf (X : Dev nD → FVec F S64x512 .f32) (l s : Fin 3) (h : Fin 2) (c : Dev nD) : Buf (Elt F) ((commV l s h).view.loc (c : Thread nD τ)) :=
  (commV l s h).view.write (Elt F) (ini m c (commV l s h)) ((sbV l h).view.read (Elt F) (sbBufOf m X l (peer c (step s)))) Finset.univ
def commLdOf (X : Dev nD → FVec F S64x512 .f32) (l s : Fin 3) (h : Fin 2) (c : Dev nD) : Vec F S1x1x64x512 .bf16 :=
  commM.view.readAt (Elt F) (commR l s h).toLoadRect (commBufOf m X l s h c)

/-- The activations after layer `l`, from those before it. -/
def next (X : Dev nD → FVec F S64x512 .f32) (l : Fin 3) (c : Dev nD) : FVec F S64x512 .f32 :=
  layerVal (k0_pay1 (X c) (winLd m l c)) (fun s => commLdOf m X l s 0 c) (fun s => commLdOf m X l s 1 c) (woutLd m l 0 c) (woutLd m l 1 c)

/-- The activations before layer `n`. -/
def act : ℕ → Dev nD → FVec F S64x512 .f32
  | 0 => x₀ m
  | n + 1 => next m (act n) (Fin.ofNat 3 n)

theorem act_succ (l : Fin 3) : act m (l.val + 1) = next m (act m l.val) l := by
  show next m (act m l.val) (Fin.ofNat 3 l.val) = _
  congr 1
  exact Fin.ext (Nat.mod_eq_of_lt l.isLt)

/-- The send buffer as the transfers of layer `l`, half `h`, read it. -/
def sbBuf (l : Fin 3) (h : Fin 2) (c : Dev nD) : Buf (Elt F) ((sbV l h).view.loc (c : Thread nD τ)) := sbBufOf m (act m l.val) l c
abbrev commBuf (l s : Fin 3) (h : Fin 2) (c : Dev nD) := commBufOf m (act m l.val) l s h c
abbrev commLd (l s : Fin 3) (h : Fin 2) (c : Dev nD) := commLdOf m (act m l.val) l s h c

/-! ## Cells -/

/-- A layer's cells. -/
inductive LK
  | send (j : Fin 3) (h : Fin 2)
  | recv (s : Fin 3) (h : Fin 2)
  | win
  | wout
  deriving DecidableEq, Fintype

/-- A device's cells. -/
inductive Key
  | bar
  | x
  | lay (l : Fin 3) (k : LK)
  deriving DecidableEq, Fintype

def csem : Key → SemLoc sig
  | .bar => .reg barS
  | .x => .dma (wS 2 0)
  | .lay l (.send j h) => .dma (sendS l j h)
  | .lay l (.recv s h) => .dma (recvS l s h)
  | .lay l .win => .dma (wS 0 l)
  | .lay l .wout => .dma (wS 1 l)

theorem csem_injective : Function.Injective csem := by
  have h : ∀ a b : Key, csem a = csem b → a = b := by decide +kernel
  exact h

abbrev cell (c : Dev nD) (k : Key) : GSem nD τ sig := ((c : Thread nD τ), csem k)

/-- The cell of the protocol that `g` is, if it is one. -/
def key? (g : GSem nD τ sig) : Option Key := if g.1.2 = .tc then Function.partialInv csem g.2 else none

theorem key?_cell (c : Dev nD) (k : Key) : key? (cell c k) = some k := by
  unfold key?; rw [if_pos rfl]; exact Function.partialInv_left csem_injective k

/-- The units of a half's transfer, on either side. -/
def N : ℕ := (commV 0 0 0).view.dmaCredit
theorem N_pos : 0 < N := View.dmaCredit_pos _ (by decide)
theorem commV_credit (l s : Fin 3) (h : Fin 2) : (commV l s h).view.dmaCredit = N := rfl
theorem sbV_credit (l : Fin 3) (h : Fin 2) : (sbV l h).view.dmaCredit = N := rfl

/-- The units a duty of a cell contributes. -/
def amt : Key → ℕ
  | .bar => 1
  | .x => xM.view.dmaCredit
  | .lay _ (.send _ _) => N
  | .lay _ (.recv _ _) => N
  | .lay l .win => (winV l).view.dmaCredit
  | .lay l .wout => (woutV l).view.dmaCredit

theorem amt_pos (k : Key) : 0 < amt k := by
  rcases k with _ | _ | ⟨l, (⟨j, h⟩ | ⟨s, h⟩ | _ | _)⟩
  · exact Nat.one_pos
  · exact View.dmaCredit_pos _ (by decide)
  · exact N_pos
  · exact N_pos
  · exact View.dmaCredit_pos _ (by decide)
  · exact View.dmaCredit_pos _ (by decide)

/-- The duties of a cell's one round. -/
def dut : Key → Finset (Fin 3)
  | .bar => Finset.univ
  | _ => {0}

/-! ## Payloads -/

/-- A view of device `c` held at the share `q`, at the contents `f` of its buffer. -/
abbrev pts (c : Dev nD) {sp : Space} {s : Shape} {e : EltTy} (M : Memref sig .tc sp s e) (q : PosShare TreeShare)
    (f : Buf (Elt F) (M.view.loc (c : Thread nD τ))) : sProp 𝕄 :=
  M.view.loc (c : Thread nD τ) ↦[M.view.set]{q} f

/-- The third of a sent half that the transfer of index `j` reads. -/
abbrev third (j : Fin 3) : PosShare TreeShare := Ring.shares3 fullShare j

/-- Slot `s` of device `c`'s receive buffer, all layers and halves, at any contents. -/
def slotFree (c : Dev nD) (s : Fin 3) : sProp 𝕄 :=
  bigSep Finset.univ fun lh : Fin 3 × Fin 2 => iprop(∃ f, pts (F := F) c (commV lh.1 s lh.2) fullShare f)

def pay (c : Dev nD) : Key → Fin 3 → sProp 𝕄
  | .bar, j => slotFree (peer c (step (Fin.rev j))) j
  | .x, _ => iprop(pts c xM fullShare (xM.view.write (Elt F) (ini m c xM) (x₀ m c) Finset.univ) ∗ pts c xArg fullShare (ini m c xArg))
  | .lay l (.send j h), _ => pts c (sbV l h) (third j) (sbBuf m l h c)
  | .lay l (.recv s h), _ => pts c (commV l s h) fullShare (commBuf m l s h c)
  | .lay l .win, _ => iprop(pts c (winV l) fullShare (winBuf m l c) ∗ pts c (winArg l) fullShare (ini m c (winArg l)))
  | .lay l .wout, _ => iprop(pts c (woutV l) fullShare (woutBuf m l c) ∗ pts c (woutArg l) fullShare (ini m c (woutArg l)))

instance pay_storable (c : Dev nD) (k : Key) (d : Fin 3) : BI.Storable (upEmb : UEmb _ 𝕄) (pay m c k d) := by
  rcases k with _ | _ | ⟨l, (⟨j, h⟩ | ⟨s, h⟩ | _ | _)⟩ <;> simp only [pay, slotFree] <;> infer_instance

/-- The schedule: one round of every cell. -/
def Rd : Rounds.Schedule (GSem nD τ sig) (Fin 3) 𝕄 where
  duties g r := match r, key? g with
    | 0, some k => dut k
    | _, _ => ∅
  amount g _ _ := match key? g with
    | some k => amt k
    | none => 1
  payload g _ d := match key? g with
    | some k => pay m g.1.1 k d
    | none => iprop(emp)
  amount_pos g _ _ _ := by
    cases key? g with
    | none => exact Nat.one_pos
    | some k => exact amt_pos k

instance Rd_payload_storable (g : GSem nD τ sig) (r : ℕ) (d : Fin 3) :
    BI.Storable (upEmb : UEmb _ 𝕄) ((Rd (F := F) m).payload g r d) := by
  show BI.Storable upEmb (match key? g with | some k => pay m g.1.1 k d | none => iprop(emp))
  cases key? g <;> infer_instance

section Sched
variable (c : Dev nD) (k : Key)

theorem duties_cell : (Rd (F := F) m).duties (cell c k) 0 = dut k := by
  show (match 0, key? (cell c k) with | 0, some k => dut k | _, _ => ∅) = _
  rw [key?_cell]; rfl
theorem duties_later (g : GSem nD τ sig) : ∀ r, 1 ≤ r → (Rd (F := F) m).duties g r = ∅ := fun r hr => by
  obtain ⟨r, rfl⟩ := Nat.exists_eq_succ_of_ne_zero (Nat.ne_of_gt hr)
  rfl
theorem amount_cell (d : Fin 3) : (Rd (F := F) m).amount (cell c k) 0 d = amt k := by
  show (match key? (cell c k) with | some k => amt k | none => 1) = _
  rw [key?_cell]
theorem payload_cell (d : Fin 3) : (Rd (F := F) m).payload (cell c k) 0 d = pay m c k d := by
  show (match key? (cell c k) with | some k => pay m c k d | none => iprop(emp)) = _
  rw [key?_cell]

theorem expect_cell : (Rd (F := F) m).expect (cell c k) 0 = (dut k).card * amt k := by
  unfold Schedule.expect Schedule.amountOf
  rw [duties_cell, Finset.sum_congr rfl fun d _ => amount_cell m c k d, Finset.sum_const, smul_eq_mul]

/-- What the wait for a cell's whole round hands over. -/
theorem rest_cell : bigSep ((Rd (F := F) m).duties (cell c k) 0 \ ∅) (fun d => (Rd (F := F) m).payload (cell c k) 0 d) = bigSep (dut k) (pay m c k) := by
  rw [Finset.sdiff_empty, duties_cell]
  exact bigSep_congr fun d _ => payload_cell m c k d

end Sched

/-! ## What a device owes; the levels -/

/-- The unit for the barrier of the peer of index `j`; the units for the landing of half `h` of layer `l` there. -/
def barOwe (c : Dev nD) (j : Fin 3) : CellTallies nD τ sig Unit := tallyAt (cell (peer c (step j)) .bar) () 1
def recvOwe (c : Dev nD) (l j : Fin 3) (h : Fin 2) : CellTallies nD τ sig Unit := tallyAt (cell (peer c (step j)) (.lay l (.recv (slot j) h))) () N

/-- The six landings of layer `l` before what is owed after it, the first sent last. -/
def layOwe (c : Dev nD) (l : Fin 3) (R : CellTallies nD τ sig Unit) : CellTallies nD τ sig Unit :=
  R + recvOwe c l 2 1 + recvOwe c l 0 1 + recvOwe c l 1 1 + recvOwe c l 2 0 + recvOwe c l 0 0 + recvOwe c l 1 0

/-- What is owed at the start of layer 2, of layer 1, of layer 0, and at launch. -/
def owe2 (c : Dev nD) := layOwe c 2 0
def owe1 (c : Dev nD) := layOwe c 1 (owe2 c)
def owe0 (c : Dev nD) := layOwe c 0 (owe1 c)
def O₀ (c : Dev nD) : CellTallies nD τ sig Unit := owe0 c + barOwe c 2 + barOwe c 1 + barOwe c 0

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barriers at 1, the receive cells of layer `l` at `2 + l`, everything else at 0. -/
def lvl : Key → ℕ
  | .bar => 1
  | .lay l (.recv _ _) => 2 + l.val
  | _ => 0
def lv (g : GSem nD τ sig) (_ : Unit) : ℕ := match key? g with
  | some k => lvl k
  | none => 0

theorem lv_cell (c : Dev nD) (k : Key) (u : Unit) : lv (cell c k) u = lvl k := by
  unfold lv; rw [key?_cell]

/-- Whatever is owed is owed to cells of the protocol above level `n`. -/
def Above (n : ℕ) (O : CellTallies nD τ sig Unit) : Prop := ∀ g u, 0 < O g u → ∃ c k, g = cell c k ∧ n < lvl k

theorem above_zero (n : ℕ) : Above n 0 := fun g u h => absurd h (Nat.lt_irrefl 0)
theorem above_tally {n : ℕ} (c : Dev nD) (k : Key) (a : ℕ) (h : n < lvl k) : Above n (tallyAt (cell c k) () a) := fun g u hg => by
  rw [tallyAt_apply] at hg
  by_cases h' : g = cell c k ∧ u = ()
  · exact ⟨c, k, h'.1, h⟩
  · rw [if_neg h'] at hg; exact absurd hg (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.mono {n n' : ℕ} {O : CellTallies nD τ sig Unit} (h : Above n O) (hn : n' ≤ n) : Above n' O := fun g u hg => by
  obtain ⟨c, k, e, hk⟩ := h g u hg
  exact ⟨c, k, e, lt_of_le_of_lt hn hk⟩
theorem above_layOwe {n : ℕ} (c : Dev nD) (l : Fin 3) {R : CellTallies nD τ sig Unit} (hR : Above n R) (hn : n < 2 + l.val) : Above n (layOwe c l R) := by
  unfold layOwe recvOwe
  exact above_add (above_add (above_add (above_add (above_add (above_add hR (above_tally _ _ _ hn)) (above_tally _ _ _ hn)) (above_tally _ _ _ hn))
    (above_tally _ _ _ hn)) (above_tally _ _ _ hn)) (above_tally _ _ _ hn)

theorem above_owe2 (c : Dev nD) : Above 3 (owe2 c) := above_layOwe c 2 (above_zero _) (by decide)
theorem above_owe1 (c : Dev nD) : Above 2 (owe1 c) := above_layOwe c 1 ((above_owe2 c).mono (by decide)) (by decide)
theorem above_owe0 (c : Dev nD) : Above 1 (owe0 c) := above_layOwe c 0 ((above_owe1 c).mono (by decide)) (by decide)
theorem above_O₀ (c : Dev nD) : Above 0 (O₀ c) := by
  unfold O₀ barOwe
  exact above_add (above_add (above_add ((above_owe0 c).mono (by decide)) (above_tally _ _ _ (by decide))) (above_tally _ _ _ (by decide))) (above_tally _ _ _ (by decide))

/-- A device may wait on a semaphore at or below level `n` while all it owes is above. -/
theorem mayWait (c : Dev nD) (sm : SemLoc sig) (n : ℕ) (hsm : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, _⟩ := hO g u hg; rw [L_tc]; exact Finset.mem_singleton_self _)
    (fun p hp => by rw [Finset.mem_singleton.mp hp]; exact hsm)
    (fun g u hg => by obtain ⟨c', k, rfl, hk⟩ := hO g u hg; rw [lv_cell]; exact hk)

theorem mayWait_cell (c : Dev nD) (k : Key) {O : CellTallies nD τ sig Unit} (hO : Above (lvl k) O) :
    (levAts L lv : sProp 𝕄) ⊢ MayWait (c : Thread nD τ) (csem k) () O :=
  mayWait c (csem k) (lvl k) (le_of_eq (lv_cell c k ())) hO

end Cert.Mlp
-- ==== Proof.Ops.lean ====
/-
One lemma per operation of the kernel: what it takes and what the program continues with.
-/
module

public import proofs.«01_k».proof.Proof.Schedule

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s core. -/
abbrev WP (c : Dev nD) {α : Type} (p : KProg F α) (Q : α → sProp 𝕄) : sProp 𝕄 :=
  wp frame (wpE (defs₀ (F := F)) 𝒱₀ (c : Thread nD τ) none) Set.univ p Q

/-- Every cell's invariant and that its round 0 is reached, and the levels: what every device knows throughout. -/
def known (K : Dev nD × Key → ℕ) : sProp 𝕄 :=
  iprop((bigSep Finset.univ fun ck : Dev nD × Key => cellInv ER (Rd m) (K ck) (cell ck.1 ck.2))
    ∗ (bigSep Finset.univ fun ck : Dev nD × Key => reached ER (cell ck.1 ck.2) 0) ∗ levAts L lv)

instance known_persistent (K : Dev nD × Key → ℕ) : BI.Persistent (known m K) := by unfold known; infer_instance

theorem known_inv (K : Dev nD × Key → ℕ) (c : Dev nD) (k : Key) : known m K ⊢ cellInv ER (Rd m) (K (c, k)) (cell c k) :=
  sep_elim_left.trans (bigSep_elim (Finset.mem_univ (c, k)))
theorem known_reached (K : Dev nD × Key → ℕ) (c : Dev nD) (k : Key) : known m K ⊢ reached ER (cell c k) 0 :=
  sep_elim_right.trans (sep_elim_left.trans (bigSep_elim (Finset.mem_univ (c, k))))
theorem known_lev (K : Dev nD × Key → ℕ) : known m K ⊢ levAts L lv := sep_elim_right.trans sep_elim_right

/-- Device `c` stands before, and after, the one round of its cell `k`. -/
abbrev at0 (c : Dev nD) (k : Key) : sProp 𝕄 := atPos ER (cell c k) 0 ∅ 0
abbrev at1 (c : Dev nD) (k : Key) : sProp 𝕄 := atPos ER (cell c k) (0 + 1) ∅ 0
/-- The token of a duty of the one round. -/
abbrev tok (c : Dev nD) (k : Key) (d : Fin 3) : sProp 𝕄 := dutyTok ER (cell c k) 0 d
/-- The credit of a whole round of cell `k`. -/
abbrev crd (c : Dev nD) (k : Key) : sProp 𝕄 := cred (tallyAt (cell c k) () ((dut k).card * amt k))
/-- What device `c` owes, whatever it has waited on. -/
def Ow (c : Dev nD) (O : CellTallies nD τ sig Unit) : sProp 𝕄 := iprop(∃ W, owes (c : Thread nD τ) O W)

variable (K : Dev nD × Key → ℕ) (c : Dev nD) {α : Type} {Q : α → sProp (MT nD τ sig Unit (Elt F) ℕ UU ℕ)}

theorem mem_duties {k : Key} {d : Fin 3} (h : d ∈ dut k) : d ∈ (Rd m).duties (cell c k) 0 := by rw [duties_cell]; exact h
theorem to_payload {k : Key} {d : Fin 3} {P : sProp 𝕄} (h : P ⊢ pay m c k d) : P ⊢ (Rd m).payload (cell c k) 0 d := by rw [payload_cell]; exact h

/-! ## Waits -/

/-- A wait for the whole round of a cell hands over its payloads. -/
theorem wp_wait_cell (k : Key) {w : TpuEff nD τ sig (Elt F) Λ₀ .tc PUnit} {n : ℕ}
    (hw : ∀ Φ : PUnit → sProp 𝕄, wpE (defs₀ (F := F)) 𝒱₀ (c : Thread nD τ) none Set.univ w Φ = waitSpec (c : Thread nD τ) Set.univ (csem k) n Φ)
    (hn : n = (dut k).card * amt k) {O : CellTallies nD τ sig Unit} (hO : Above (lvl k) O) {p : PUnit → KProg F α} :
    iprop(known m K ∗ crd c k ∗ at0 c k ∗ Ow c O)
      ⊢ iprop(((Ow c O ∗ at1 c k ∗ bigSep (dut k) (pay m c k)) -∗ WP c (p ⟨⟩) Q) -∗ WP c ((Prog.lift w : KProg F PUnit) >>= p) Q) := by
  subst hn
  unfold Ow
  iintro ⟨#HK, Hc, Hat, ⟨%W, HO⟩⟩ Hk
  iapply (Rounds.wp_wait_rest_token 𝒱₀ ER (Rd m) (c : Thread nD τ) none (κ := K (c, k)) hw (Set.mem_univ _) () (O := O) (W := W) (R := 0) (m := 0) (T := ∅)
      (by rw [Nat.zero_add]; exact (expect_cell m c k).symm)) $$ [Hc HO Hat]
  · isplitr; · iapply (known_inv m K c k); iexact HK
    isplitl [Hc]; · iexact Hc
    isplitl [HO]; · iexact HO
    isplitr; · iapply (mayWait_cell c k hO); iapply (known_lev m K); iexact HK
    iexact Hat
  iintro ⟨HO, Hat, -, Hpay⟩
  ihave Hp := (Entails.of_eq (rest_cell m c k)) $$ Hpay
  iapply Hk
  isplitl [HO]; · iexists _; iexact HO
  isplitl [Hat]; · iexact Hat
  iexact Hp

theorem dut_one {k : Key} (hk : k ≠ .bar) : dut k = {0} := by
  cases k with
  | bar => exact absurd rfl hk
  | x => rfl
  | lay l k => rfl

/-- A wait on a cell of one duty hands over that duty's payload. -/
theorem wp_wait_one (k : Key) (hk : k ≠ .bar) {w : TpuEff nD τ sig (Elt F) Λ₀ .tc PUnit} {n : ℕ}
    (hw : ∀ Φ : PUnit → sProp 𝕄, wpE (defs₀ (F := F)) 𝒱₀ (c : Thread nD τ) none Set.univ w Φ = waitSpec (c : Thread nD τ) Set.univ (csem k) n Φ)
    (hn : n = amt k)
    {O : CellTallies nD τ sig Unit} (hO : Above (lvl k) O) {p : PUnit → KProg F α} :
    iprop(known m K ∗ cred (tallyAt (cell c k) () (amt k)) ∗ at0 c k ∗ Ow c O)
      ⊢ iprop(((Ow c O ∗ at1 c k ∗ pay m c k 0) -∗ WP c (p ⟨⟩) Q) -∗ WP c ((Prog.lift w : KProg F PUnit) >>= p) Q) := by
  subst hn
  have h := wp_wait_cell m K c k hw (by rw [dut_one hk, Finset.card_singleton, Nat.one_mul]) hO (p := p) (Q := Q)
  unfold crd at h
  rw [dut_one hk, bigSep_singleton, Finset.card_singleton, Nat.one_mul] at h
  exact h

/-! ## Local copies -/

/-- A local copy under a cell of one duty: it takes the source, the destination and the token, and leaves the credit to wait with. -/
theorem wp_copy_cell (k : Key) (hk : k ≠ .bar) {sp sp' : Space} {s : Shape} {e : EltTy} {src : Memref sig .tc sp s e} {dst : Memref sig .tc sp' s e}
    {hsrc : src.view.WordExact} {hdst : dst.view.WordExact} {hsem : DmaTarget.Typed sp (csem k) (.here dst : DmaTarget nD τ sig .tc sp' s e)}
    {fs : Buf (Elt F) (src.view.loc (c : Thread nD τ))} {fd : Buf (Elt F) (dst.view.loc (c : Thread nD τ))}
    (hN : dst.view.amount (csem k) = amt k)
    (hpay : iprop(pts c dst fullShare (dst.view.write (Elt F) fd (src.view.read (Elt F) fs) Finset.univ) ∗ pts c src fullShare fs) ⊢ pay m c k 0)
    {p : PUnit → KProg F α} :
    iprop(known m K ∗ pts c src fullShare fs ∗ pts c dst fullShare fd ∗ tok c k 0)
      ⊢ iprop((cred (tallyAt (cell c k) () (amt k)) -∗ WP c (p ⟨⟩) Q)
        -∗ WP c ((Prog.lift (.enqueueDma src (.here dst) (csem k) hsrc hdst hsem) : KProg F PUnit) >>= p) Q) := by
  iintro ⟨#HK, Hs, Hd, Ht⟩ Hk
  iapply (Rounds.wp_copy_pointsTo 𝒱₀ ER (Rd m) (c : Thread nD τ) none (κ := K (c, k)) (r := 0) (d := 0) (q := fullShare) (fs := fs) (fd := fd)
      (by rw [duties_cell, dut_one hk]; exact Finset.mem_singleton_self _) () (amt k) hN (amount_cell m c k 0)
      (by rw [payload_cell]; exact hpay)) $$ [Hs Hd Ht]
  · isplitr; · iapply (known_inv m K c k); iexact HK
    isplitl [Hs]; · iexact Hs
    isplitl [Hd]; · iexact Hd
    isplitl [Ht]; · iexact Ht
    iapply (known_reached m K c k); iexact HK
  iintro Hc
  iapply Hk; iexact Hc

/-! ## What a wholly written view holds does not depend on what was there -/

theorem pts_rebase {sp : Space} {s : Shape} {e : EltTy} (M : Memref sig .tc sp s e) (q : PosShare TreeShare)
    (f g : Buf (Elt F) (M.view.loc (c : Thread nD τ))) (w : s.Idx → Elt F e) :
    pts c M q (M.view.write (Elt F) f w Finset.univ) = pts c M q (M.view.write (Elt F) g w Finset.univ) := by
  refine pointsTo_congr fun i hi => ?_
  obtain ⟨j, -, rfl⟩ := Finset.mem_map.mp hi
  rw [View.write_emb_of_mem _ _ (Finset.mem_univ j), View.write_emb_of_mem _ _ (Finset.mem_univ j)]

theorem wp_copyX {f : Buf (Elt F) (xM.view.loc (c : Thread nD τ))} {p : PUnit → KProg F α} :
    iprop(known m K ∗ pts c xArg fullShare (ini m c xArg) ∗ pts c xM fullShare f ∗ tok c .x 0)
      ⊢ iprop((cred (tallyAt (cell c .x) () (amt .x)) -∗ WP c (p ⟨⟩) Q) -∗ WP c (copyX >>= p) Q) :=
  wp_copy_cell m K c .x (by decide) (by exact View.amount_dma _ _) (by
    rw [pts_rebase c xM fullShare f (ini m c xM)]; exact BI.Entails.refl _)

theorem wp_copyWin (l : Fin 3) {f : Buf (Elt F) ((winV l).view.loc (c : Thread nD τ))} {p : PUnit → KProg F α} :
    iprop(known m K ∗ pts c (winArg l) fullShare (ini m c (winArg l)) ∗ pts c (winV l) fullShare f ∗ tok c (.lay l .win) 0)
      ⊢ iprop((cred (tallyAt (cell c (.lay l .win)) () (amt (.lay l .win))) -∗ WP c (p ⟨⟩) Q) -∗ WP c (copyWin l >>= p) Q) :=
  wp_copy_cell m K c (.lay l .win) (by nofun) (by exact View.amount_dma _ _) (by
    rw [pts_rebase c (winV l) fullShare f (ini m c (winV l))]; exact BI.Entails.refl _)

theorem wp_copyWout (l : Fin 3) {f : Buf (Elt F) ((woutV l).view.loc (c : Thread nD τ))} {p : PUnit → KProg F α} :
    iprop(known m K ∗ pts c (woutArg l) fullShare (ini m c (woutArg l)) ∗ pts c (woutV l) fullShare f ∗ tok c (.lay l .wout) 0)
      ⊢ iprop((cred (tallyAt (cell c (.lay l .wout)) () (amt (.lay l .wout))) -∗ WP c (p ⟨⟩) Q) -∗ WP c (copyWout l >>= p) Q) :=
  wp_copy_cell m K c (.lay l .wout) (by nofun) (by exact View.amount_dma _ _) (by
    rw [pts_rebase c (woutV l) fullShare f (ini m c (woutV l))]; exact BI.Entails.refl _)

theorem wp_waitX {O : CellTallies nD τ sig Unit} (hO : Above 0 O) {p : PUnit → KProg F α} :
    iprop(known m K ∗ cred (tallyAt (cell c .x) () (amt .x)) ∗ at0 c .x ∗ Ow c O)
      ⊢ iprop(((Ow c O ∗ at1 c .x ∗ pay m c .x 0) -∗ WP c (p ⟨⟩) Q) -∗ WP c (waitX >>= p) Q) :=
  wp_wait_one m K c .x (by decide) (w := .waitDma2 (wS 2 0) xArg xM (Memref.isWhole_whole _).wordExact (Memref.isWhole_whole _).wordExact)
    (wpE_waitDma2_eq 𝒱₀ (c : Thread nD τ) none Set.univ) rfl hO
theorem wp_waitWin (l : Fin 3) {O : CellTallies nD τ sig Unit} (hO : Above 0 O) {p : PUnit → KProg F α} :
    iprop(known m K ∗ cred (tallyAt (cell c (.lay l .win)) () (amt (.lay l .win))) ∗ at0 c (.lay l .win) ∗ Ow c O)
      ⊢ iprop(((Ow c O ∗ at1 c (.lay l .win) ∗ pay m c (.lay l .win) 0) -∗ WP c (p ⟨⟩) Q) -∗ WP c (waitWin l >>= p) Q) :=
  wp_wait_one m K c (.lay l .win) (by nofun) (w := .waitDma2 (wS 0 l) (winArg l) (winV l) (winArg_whole l).wordExact (winV_words l))
    (wpE_waitDma2_eq 𝒱₀ (c : Thread nD τ) none Set.univ) rfl hO
theorem wp_waitWout (l : Fin 3) {O : CellTallies nD τ sig Unit} (hO : Above 0 O) {p : PUnit → KProg F α} :
    iprop(known m K ∗ cred (tallyAt (cell c (.lay l .wout)) () (amt (.lay l .wout))) ∗ at0 c (.lay l .wout) ∗ Ow c O)
      ⊢ iprop(((Ow c O ∗ at1 c (.lay l .wout) ∗ pay m c (.lay l .wout) 0) -∗ WP c (p ⟨⟩) Q) -∗ WP c (waitWout l >>= p) Q) :=
  wp_wait_one m K c (.lay l .wout) (by nofun) (w := .waitDma2 (wS 1 l) (woutArg l) (woutV l) (woutArg_whole l).wordExact (woutV_words l))
    (wpE_waitDma2_eq 𝒱₀ (c : Thread nD τ) none Set.univ) rfl hO
theorem wp_waitRecv (l s : Fin 3) (h : Fin 2) {O : CellTallies nD τ sig Unit} (hO : Above (2 + l.val) O) {p : PUnit → KProg F α} :
    iprop(known m K ∗ cred (tallyAt (cell c (.lay l (.recv s h))) () N) ∗ at0 c (.lay l (.recv s h)) ∗ Ow c O)
      ⊢ iprop(((Ow c O ∗ at1 c (.lay l (.recv s h)) ∗ pay m c (.lay l (.recv s h)) 0) -∗ WP c (p ⟨⟩) Q) -∗ WP c (waitRecv l s h >>= p) Q) :=
  wp_wait_one m K c (.lay l (.recv s h)) (by nofun) (w := .waitDma2 (recvS l s h) (sbV l h) (commV l s h) (sbV_words l h) (commV_words l s h))
    (wpE_waitDma2_eq 𝒱₀ (c : Thread nD τ) none Set.univ) (commV_credit l s h) hO
theorem wp_waitSend (l j : Fin 3) (h : Fin 2) {O : CellTallies nD τ sig Unit} (hO : Above 0 O) {p : PUnit → KProg F α} :
    iprop(known m K ∗ cred (tallyAt (cell c (.lay l (.send j h))) () N) ∗ at0 c (.lay l (.send j h)) ∗ Ow c O)
      ⊢ iprop(((Ow c O ∗ at1 c (.lay l (.send j h)) ∗ pay m c (.lay l (.send j h)) 0) -∗ WP c (p ⟨⟩) Q) -∗ WP c (waitSend l j h >>= p) Q) :=
  wp_wait_one m K c (.lay l (.send j h)) (by nofun) (w := .waitDma2 (sendS l j h) (commV l (slot j) h) (sbV l h) (commV_words l (slot j) h) (sbV_words l h))
    (wpE_waitDma2_eq 𝒱₀ (c : Thread nD τ) none Set.univ) (sbV_credit l h) hO

/-! ## Transfers -/

theorem peer_back (j : Fin 3) : peer (peer c (step j)) (step (slot j)) = c := by revert c j; decide

/-- What the transfer of index `j`, half `h`, of layer `l` takes beside the sent columns: the tokens of the two duties it pays
    and the peer's slot. -/
def toSend (l j : Fin 3) (h : Fin 2) : sProp 𝕄 :=
  iprop(tok c (.lay l (.send j h)) 0 ∗ tok (peer c (step j)) (.lay l (.recv (slot j) h)) 0
    ∗ ∃ f, pts (F := F) (peer c (step j)) (commV l (slot j) h) fullShare f)

theorem wp_send_piece (l j : Fin 3) (h : Fin 2) {O : CellTallies nD τ sig Unit} {p : PUnit → KProg F α} :
    iprop(known m K ∗ toSend c l j h ∗ pts c (sbV l h) (third j) (sbBuf m l h c) ∗ Ow c (O + recvOwe c l j h))
      ⊢ iprop(((cred (tallyAt (cell c (.lay l (.send j h))) () N) ∗ Ow c O) -∗ WP c (p ⟨⟩) Q) -∗ WP c (send l (peer c (step j)) j h >>= p) Q) := by
  unfold toSend Ow
  iintro ⟨#HK, ⟨Ht, Ht', ⟨%f, Hd⟩⟩, Hs, ⟨%W, HO⟩⟩ Hk
  iapply (Rounds.wp_send_pointsTo 𝒱₀ ER (Rd m) (c : Thread nD τ) none (κ₁ := K (c, .lay l (.send j h))) (κ₂ := K (peer c (step j), .lay l (.recv (slot j) h)))
    (r₁ := 0) (r₂ := 0) (d₁ := 0) (d₂ := 0) (q := third j) (fs := sbBuf m l h c) (fd := f)
    (mem_duties m c (k := .lay l (.send j h)) (Finset.mem_singleton_self _))
    (mem_duties m (peer c (step j)) (k := .lay l (.recv (slot j) h)) (Finset.mem_singleton_self _))
    () () N (View.amount_dma _ _) (amount_cell m c (.lay l (.send j h)) 0) (amount_cell m (peer c (step j)) (.lay l (.recv (slot j) h)) 0) O rfl (W := W)
    (to_payload m c (k := .lay l (.send j h)) (BI.Entails.refl _))
    (to_payload m (peer c (step j)) (k := .lay l (.recv (slot j) h)) (Entails.of_eq (by
      refine (pts_rebase (peer c (step j)) (commV l (slot j) h) fullShare f (ini m _ (commV l (slot j) h)) _).trans ?_
      show _ = pts (peer c (step j)) (commV l (slot j) h) fullShare (commBufOf m (act m l.val) l (slot j) h (peer c (step j)))
      unfold commBufOf
      rw [peer_back]
      rfl)))) $$ [Ht Ht' Hd Hs HO]
  · isplitr; · iapply (known_inv m K c (.lay l (.send j h))); iexact HK
    isplitr; · iapply (known_inv m K (peer c (step j)) (.lay l (.recv (slot j) h))); iexact HK
    isplitl [Hs]; · iexact Hs
    isplitl [Hd]; · iexact Hd
    isplitl [HO]; · iexact HO
    isplitl [Ht]; · iexact Ht
    isplitr; · iapply (known_reached m K c (.lay l (.send j h))); iexact HK
    isplitl [Ht']; · iexact Ht'
    iapply (known_reached m K (peer c (step j)) (.lay l (.recv (slot j) h))); iexact HK
  iintro ⟨Hc, HO⟩
  iapply Hk
  isplitl [Hc]; · iexact Hc
  iexists W; iexact HO

/-! ## The barrier -/

theorem wp_signal_peer (j : Fin 3) {O : CellTallies nD τ sig Unit} {p : PUnit → KProg F α} :
    iprop(known m K ∗ tok (peer c (step j)) .bar j ∗ slotFree c j ∗ Ow c (O + barOwe c j))
      ⊢ iprop((Ow c O -∗ WP c (p ⟨⟩) Q) -∗ WP c ((semSignalWord (peer c (step j)) barS 1#32 : KProg F PUnit) >>= p) Q) := by
  unfold Ow
  iintro ⟨#HK, Ht, Hs, ⟨%W, HO⟩⟩ Hk
  have hs : slotFree c j ⊢ (Rd m).payload ((peer c (step j) : Thread nD τ), SemLoc.reg barS) 0 j :=
    to_payload m (peer c (step j)) (k := .bar) (Entails.of_eq (by
      show slotFree c j = slotFree (peer (peer c (step j)) (step (slot j))) j
      rw [peer_back]))
  ihave Hs := hs $$ Hs
  iapply (Rounds.wp_signal 𝒱₀ ER (Rd m) (c : Thread nD τ) none (dst := (peer c (step j) : Thread nD τ)) (κ := K (peer c (step j), .bar)) (d := j)
    (mem_duties m (peer c (step j)) (k := .bar) (Finset.mem_univ _))
    ((amount_cell m (peer c (step j)) .bar j).trans (by decide)) () O rfl) $$ [Ht Hs HO]
  · isplitr; · iapply (known_inv m K (peer c (step j)) .bar); iexact HK
    isplitl [HO]; · iexact HO
    isplitl [Ht]; · iexact Ht
    isplitl [Hs]; · iexact Hs
    iapply (known_reached m K (peer c (step j)) .bar); iexact HK
  iintro HO
  iapply Hk
  iexists W; iexact HO

/-- The barrier's wait: the three peers' slots. -/
theorem wp_barrier {O : CellTallies nD τ sig Unit} (hO : Above 1 O) {p : PUnit → KProg F α} :
    iprop(known m K ∗ crd c .bar ∗ at0 c .bar ∗ Ow c O)
      ⊢ iprop(((Ow c O ∗ at1 c .bar ∗ bigSep Finset.univ fun j : Fin 3 => slotFree (peer c (step (Fin.rev j))) j) -∗ WP c (p ⟨⟩) Q)
        -∗ WP c ((semWaitWord barS 3#32 : KProg F PUnit) >>= p) Q) :=
  wp_wait_cell m K c .bar (w := .semWait barS (3#32).toInt) (wpE_semWait_eq 𝒱₀ (c : Thread nD τ) none Set.univ) (by decide) hO

/-! ## Loads and the store of a layer -/

theorem winV_set (l : Fin 3) : (winV l).view.set = (winM.access (winR l)).set := View.set_reshape _ _
theorem woutV_set (l : Fin 3) : (woutV l).view.set = (woutM.access (woutR l)).set := View.set_reshape _ _
theorem commV_set (l s : Fin 3) (h : Fin 2) : (commV l s h).view.set = (commM.access (commR l s h)).set := View.set_reshape _ _
theorem sbV_set (l : Fin 3) (h : Fin 2) : (sbV l h).view.set = (sbM.access (sbR l h)).set := View.set_reshape _ _

theorem wp_loadWin (l : Fin 3) {p : Vec F S1x512x1024 .f32 → KProg F α} :
    pts c (winV l) fullShare (winBuf m l c)
      ⊢ iprop((pts c (winV l) fullShare (winBuf m l c) -∗ WP c (p (winLd m l c)) Q) -∗ WP c (loadWin l >>= p) Q) :=
  wp_load_rect 𝒱₀ (c : Thread nD τ) none Set.univ (m := winM) (r := winR l) (k := p) (by rw [winV_set])

theorem woutH_sub (l : Fin 3) (h : Fin 2) : (woutM.access (woutHR l h)).set ⊆ (woutV l).view.set := by
  rw [woutV_set, View.set_slice, View.set_slice]
  refine Finset.map_subset_map.mpr (Rect.set_subset_of_span _ _ (fun _ => rfl) ?_)
  revert l h; decide

theorem wp_loadWout (l : Fin 3) (h : Fin 2) {p : Vec F S1x512x512 .f32 → KProg F α} :
    pts c (woutV l) fullShare (woutBuf m l c)
      ⊢ iprop((pts c (woutV l) fullShare (woutBuf m l c) -∗ WP c (p (woutLd m l h c)) Q) -∗ WP c (loadWout l h >>= p) Q) :=
  wp_load_rect 𝒱₀ (c : Thread nD τ) none Set.univ (m := woutM) (r := woutHR l h) (k := p) (woutH_sub l h)

theorem wp_loadComm (l s : Fin 3) (h : Fin 2) {p : Vec F S1x1x64x512 .bf16 → KProg F α} :
    pts c (commV l s h) fullShare (commBuf m l s h c)
      ⊢ iprop((pts c (commV l s h) fullShare (commBuf m l s h c) -∗ WP c (p (commLd m l s h c)) Q) -∗ WP c (loadComm l s h >>= p) Q) :=
  wp_load_rect 𝒱₀ (c : Thread nD τ) none Set.univ (m := commM) (r := commR l s h) (k := p) (by rw [commV_set])

/-- Layer `l`'s plane of the send buffer. -/
abbrev sbPlane (l : Fin 3) (f : Buf (Elt F) ((sbM.access (sbLR l)).loc (c : Thread nD τ))) : sProp 𝕄 :=
  (sbM.access (sbLR l)).loc (c : Thread nD τ) ↦[(sbM.access (sbLR l)).set]{fullShare} f

theorem wp_loadSb (l : Fin 3) {f : Buf (Elt F) ((sbM.access (sbLR l)).loc (c : Thread nD τ))} {p : Vec F S1x64x1024 .bf16 → KProg F α} :
    sbPlane c l f ⊢ iprop((∀ v, sbPlane c l f -∗ WP c (p v) Q) -∗ WP c (loadSb l >>= p) Q) := by
  iintro H Hk
  iapply (wp_load_rect 𝒱₀ (c : Thread nD τ) none Set.univ (m := sbM) (r := sbLR l) (k := p) (Finset.Subset.refl _)) $$ H
  iintro H
  iapply Hk; iexact H

theorem wp_storeSb (l : Fin 3) {f : Buf (Elt F) ((sbM.access (sbLR l)).loc (c : Thread nD τ))} {v : Vec F S1x64x1024 .bf16} {p : PUnit → KProg F α} :
    sbPlane c l f
      ⊢ iprop((sbPlane c l ((sbM.access (sbLR l)).write (Elt F) (ini m c sbM) v Finset.univ) -∗ WP c (p ⟨⟩) Q) -∗ WP c (storeSb l v >>= p) Q) := by
  iintro H Hk
  iapply (wp_store 𝒱₀ (c : Thread nD τ) none Set.univ (m := sbM) (r := sbLR l) (k := p) (Mk := Finset.univ) (S := (sbM.access (sbLR l)).set) (f := f) (Finset.Subset.refl _)) $$ H
  iintro H
  iapply Hk
  rw [show sbPlane c l ((sbM.access (sbLR l)).write (Elt F) (ini m c sbM) v Finset.univ) = sbPlane c l ((sbM.access (sbLR l)).write (Elt F) f v Finset.univ) from
    pointsTo_congr fun i hi => by
      obtain ⟨j, -, rfl⟩ := Finset.mem_map.mp hi
      rw [View.write_emb_of_mem _ _ (Finset.mem_univ j), View.write_emb_of_mem _ _ (Finset.mem_univ j)]]
  iexact H

end Cert.Mlp
-- ==== Proof.Pieces.lean ====
/-
The buffers cut into the pieces the protocol hands around: a weight stack or the send buffer into the layers' planes, a
plane of the send buffer into its two halves and each half into thirds, the receive buffer into its halves of slots.
-/
module

public import proofs.«01_k».proof.Proof.Ops

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem whole_access_set (b : Ref sig .tc) (r : Rect b.ty.shape) : ((Memref.whole b).access r).set = r.set := by
  rw [View.set_slice]; exact Finset.map_refl

/-! ## Planes of a stack of three -/

section Stack
variable {n d : ℕ} (inb : ∀ l : Fin 3, ∀ a, (![l.val, 0, 0] : Fin 3 → Nat) a + (![1, n, d] : Fin 3 → Nat) a ≤ (![3, n, d] : Fin 3 → Nat) a)

abbrev planeR (l : Fin 3) : Rect ⟨3, ![3, n, d]⟩ := Rect.unit (s := ⟨3, ![3, n, d]⟩) ![l.val, 0, 0] ![1, n, d] (inb l)

theorem mem_plane (l : Fin 3) (i : Shape.Idx ⟨3, ![3, n, d]⟩) : i ∈ (planeR inb l).set ↔ (i 0).val = l.val := by
  rw [Rect.mem_set_unit]
  constructor
  · intro h
    have h0 : l.val ≤ (i 0).val ∧ (i 0).val < l.val + 1 := h 0
    omega
  · intro h a
    fin_cases a
    · show l.val ≤ (i 0).val ∧ (i 0).val < l.val + 1
      omega
    · show 0 ≤ (i 1).val ∧ (i 1).val < 0 + n
      have h1 : (i 1).val < n := (i 1).isLt
      omega
    · show 0 ≤ (i 2).val ∧ (i 2).val < 0 + d
      have h2 : (i 2).val < d := (i 2).isLt
      omega

theorem plane_disjoint (l l' : Fin 3) (h : l ≠ l') : Disjoint (planeR inb l).set (planeR inb l').set :=
  Finset.disjoint_left.mpr fun i hi hi' => h (Fin.ext (((mem_plane inb l i).mp hi).symm.trans ((mem_plane inb l' i).mp hi')))

theorem plane_cover : Finset.univ.biUnion (fun l => (planeR inb l).set) = Finset.univ :=
  Finset.eq_univ_iff_forall.mpr fun i => Finset.mem_biUnion.mpr ⟨i 0, Finset.mem_univ _, (mem_plane inb (i 0) i).mpr rfl⟩

end Stack

/-! ## The receive buffer -/

/-- A half of a slot: its layer, its slot, its half. -/
abbrev Piece : Type := Fin 3 × Fin 3 × Fin 2

theorem mem_comm (l s : Fin 3) (h : Fin 2) (i : Shape.Idx S3x3x64x1024) :
    i ∈ (commR l s h).set ↔ (i 0).val = l.val ∧ (i 1).val = s.val ∧ (i 3).val / 512 = h.val := by
  rw [Rect.mem_set_unit]
  constructor
  · intro hm
    have h0 : l.val ≤ (i 0).val ∧ (i 0).val < l.val + 1 := hm 0
    have h1 : s.val ≤ (i 1).val ∧ (i 1).val < s.val + 1 := hm 1
    have h3 : 512 * h.val ≤ (i 3).val ∧ (i 3).val < 512 * h.val + 512 := hm 3
    omega
  · rintro ⟨h0, h1, h3⟩ a
    fin_cases a
    · show l.val ≤ (i 0).val ∧ (i 0).val < l.val + 1
      omega
    · show s.val ≤ (i 1).val ∧ (i 1).val < s.val + 1
      omega
    · show 0 ≤ (i 2).val ∧ (i 2).val < 0 + 64
      have h2 : (i 2).val < 64 := (i 2).isLt
      omega
    · show 512 * h.val ≤ (i 3).val ∧ (i 3).val < 512 * h.val + 512
      omega

theorem comm_disjoint (b b' : Piece) (h : b ≠ b') : Disjoint (commR b.1 b.2.1 b.2.2).set (commR b'.1 b'.2.1 b'.2.2).set :=
  Finset.disjoint_left.mpr fun i hi hi' => h (by
    obtain ⟨h0, h1, h3⟩ := (mem_comm _ _ _ i).mp hi
    obtain ⟨h0', h1', h3'⟩ := (mem_comm _ _ _ i).mp hi'
    exact Prod.ext (Fin.ext (h0.symm.trans h0')) (Prod.ext (Fin.ext (h1.symm.trans h1')) (Fin.ext (h3.symm.trans h3'))))

theorem comm_cover : Finset.univ.biUnion (fun b : Piece => (commR b.1 b.2.1 b.2.2).set) = Finset.univ :=
  Finset.eq_univ_iff_forall.mpr fun i => Finset.mem_biUnion.mpr
    ⟨(i 0, i 1, ⟨(i 3).val / 512, by have h3 : (i 3).val < 1024 := (i 3).isLt; omega⟩), Finset.mem_univ _, (mem_comm _ _ _ i).mpr ⟨rfl, rfl, rfl⟩⟩

/-! ## The halves of a plane of the send buffer -/

theorem mem_sb (l : Fin 3) (h : Fin 2) (i : Shape.Idx S3x64x1024) :
    i ∈ (sbR l h).set ↔ (i 0).val = l.val ∧ (i 2).val / 512 = h.val := by
  rw [Rect.mem_set_unit]
  constructor
  · intro hm
    have h0 : l.val ≤ (i 0).val ∧ (i 0).val < l.val + 1 := hm 0
    have h2 : 512 * h.val ≤ (i 2).val ∧ (i 2).val < 512 * h.val + 512 := hm 2
    omega
  · rintro ⟨h0, h2⟩ a
    fin_cases a
    · show l.val ≤ (i 0).val ∧ (i 0).val < l.val + 1
      omega
    · show 0 ≤ (i 1).val ∧ (i 1).val < 0 + 64
      have h1 : (i 1).val < 64 := (i 1).isLt
      omega
    · show 512 * h.val ≤ (i 2).val ∧ (i 2).val < 512 * h.val + 512
      omega

theorem sb_disjoint (l : Fin 3) : Disjoint (sbR l 0).set (sbR l 1).set :=
  Finset.disjoint_left.mpr fun i hi hi' => by
    have h := ((mem_sb l 0 i).mp hi).2.symm.trans ((mem_sb l 1 i).mp hi').2
    exact absurd h (by decide)

theorem sb_cover (l : Fin 3) : (sbR l 0).set ∪ (sbR l 1).set = (sbLR l).set := by
  ext i
  rw [Finset.mem_union, mem_sb, mem_sb, mem_plane (n := 64) (d := 1024) inbSbL l i]
  have h2 : (i 2).val < 1024 := (i 2).isLt
  show ((i 0).val = l.val ∧ (i 2).val / 512 = 0) ∨ ((i 0).val = l.val ∧ (i 2).val / 512 = 1) ↔ _
  omega

variable (m : (ℓ : Loc nD τ sig) → Buf (Elt F) ℓ) (c : Dev nD)

/-- A stored plane of the send buffer is the six thirds of halves that its transfers read. -/
theorem sbPlane_split (l : Fin 3) :
    (sbPlane c l (sbBufOf m (act m l.val) l c) : sProp 𝕄)
      ⊣⊢ iprop((pts c (sbV l 0) (third 0) (sbBuf m l 0 c) ∗ pts c (sbV l 0) (third 1) (sbBuf m l 0 c) ∗ pts c (sbV l 0) (third 2) (sbBuf m l 0 c))
        ∗ pts c (sbV l 1) (third 0) (sbBuf m l 1 c) ∗ pts c (sbV l 1) (third 1) (sbBuf m l 1 c) ∗ pts c (sbV l 1) (third 2) (sbBuf m l 1 c)) := by
  have hset : (sbM.access (sbLR l)).set = (sbV l 0).view.set ∪ (sbV l 1).view.set := by
    rw [sbV_set, sbV_set]
    show ((Memref.whole cc0_scratch1).access (sbLR l)).set = ((Memref.whole cc0_scratch1).access (sbR l 0)).set ∪ ((Memref.whole cc0_scratch1).access (sbR l 1)).set
    rw [whole_access_set, whole_access_set, whole_access_set]
    exact (sb_cover l).symm
  have hdis : Disjoint (sbV l 0).view.set (sbV l 1).view.set := by
    rw [sbV_set, sbV_set]
    show Disjoint ((Memref.whole cc0_scratch1).access (sbR l 0)).set ((Memref.whole cc0_scratch1).access (sbR l 1)).set
    rw [whole_access_set, whole_access_set]
    exact sb_disjoint l
  have hu := pointsTo_union (ℓ := (sbV l 0).view.loc (c : Thread nD τ)) (q := fullShare) (f := sbBuf m l 0 c) (Ix := Unit) (Name := ℕ) (U := UU) (Lvl := ℕ) hdis
  have h0 := Ring.pointsTo_thirds (ℓ := (sbV l 0).view.loc (c : Thread nD τ)) (I := (sbV l 0).view.set) (Ix := Unit) (Name := ℕ) (U := UU) (Lvl := ℕ) fullShare (sbBuf m l 0 c)
  have h1 := Ring.pointsTo_thirds (ℓ := (sbV l 1).view.loc (c : Thread nD τ)) (I := (sbV l 1).view.set) (Ix := Unit) (Name := ℕ) (U := UU) (Lvl := ℕ) fullShare (sbBuf m l 1 c)
  have he : (sbPlane c l (sbBufOf m (act m l.val) l c) : sProp 𝕄)
      = ((sbV l 0).view.loc (c : Thread nD τ) ↦[(sbV l 0).view.set ∪ (sbV l 1).view.set]{fullShare} sbBuf m l 0 c : sProp 𝕄) := by
    rw [← hset]; rfl
  rw [he]
  exact ⟨hu.1.trans (BIClass.sep_mono h0.1 h1.1), (BIClass.sep_mono h0.2 h1.2).trans hu.2⟩

end Cert.Mlp
-- ==== Proof.Layer.lean ====
/-
One layer, run on one device: from its cells at the start of their round, its two weights' copies under way, its peers' slots
and its own plane of the send buffer, to everything back and the next activation.
-/
module

public import proofs.«01_k».proof.Proof.Pieces

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

theorem pay_recv (l s : Fin 3) (h : Fin 2) : pay m c (.lay l (.recv s h)) 0 = pts c (commV l s h) fullShare (commBuf m l s h c) := rfl
theorem pay_send (l j : Fin 3) (h : Fin 2) : pay m c (.lay l (.send j h)) 0 = pts c (sbV l h) (third j) (sbBuf m l h c) := rfl
theorem pay_win (l : Fin 3) : pay m c (.lay l .win) 0
    = iprop(pts c (winV l) fullShare (winBuf m l c) ∗ pts c (winArg l) fullShare (ini m c (winArg l))) := rfl
theorem pay_wout (l : Fin 3) : pay m c (.lay l .wout) 0
    = iprop(pts c (woutV l) fullShare (woutBuf m l c) ∗ pts c (woutArg l) fullShare (ini m c (woutArg l))) := rfl

/-- A transfer before it starts, and its send cell. -/
def sendIn (l : Fin 3) (jh : Fin 3 × Fin 2) : sProp 𝕄 :=
  iprop(toSend c l jh.1 jh.2 ∗ at0 c (.lay l (.send jh.1 jh.2)))
/-- A receive cell before its wait. -/
def recvIn (l : Fin 3) (sh : Fin 3 × Fin 2) : sProp 𝕄 :=
  iprop(cred (tallyAt (cell c (.lay l (.recv sh.1 sh.2))) () N) ∗ at0 c (.lay l (.recv sh.1 sh.2)))
/-- A receive cell after its wait, with what landed. -/
def recvOut (l : Fin 3) (sh : Fin 3 × Fin 2) : sProp 𝕄 :=
  iprop(at1 c (.lay l (.recv sh.1 sh.2)) ∗ pts c (commV l sh.1 sh.2) fullShare (commBuf m l sh.1 sh.2 c))
/-- A weight's cell while its copy is under way, and once it has been waited for. -/
def copyIn (k : Key) : sProp 𝕄 := iprop(cred (tallyAt (cell c k) () (amt k)) ∗ at0 c k)
def copyOut (k : Key) : sProp 𝕄 := iprop(at1 c k ∗ pay m c k 0)

/-- What device `c` enters layer `l` with, and leaves it with. -/
def layIn (l : Fin 3) : sProp 𝕄 :=
  iprop(copyIn c (.lay l .win) ∗ copyIn c (.lay l .wout) ∗ (∃ f, sbPlane (F := F) c l f)
    ∗ bigSep Finset.univ (sendIn (F := F) c l) ∗ bigSep Finset.univ (recvIn (F := F) c l))
def layOut (l : Fin 3) : sProp 𝕄 :=
  iprop(copyOut m c (.lay l .win) ∗ copyOut m c (.lay l .wout) ∗ (∃ f, sbPlane (F := F) c l f)
    ∗ (bigSep Finset.univ fun jh : Fin 3 × Fin 2 => at1 c (.lay l (.send jh.1 jh.2))) ∗ bigSep Finset.univ (recvOut m c l))

/-- The transfers in the order the kernel starts them; the landings in the order it waits for them. -/
theorem over_sends (Φ : Fin 3 × Fin 2 → sProp 𝕄) :
    bigSep Finset.univ Φ = iprop(Φ (1, 0) ∗ Φ (0, 0) ∗ Φ (2, 0) ∗ Φ (1, 1) ∗ Φ (0, 1) ∗ Φ (2, 1)) :=
  bigSep_univ_eq_bigSepL [(1, 0), (0, 0), (2, 0), (1, 1), (0, 1), (2, 1)] (by decide) (by decide) Φ
theorem over_recvs (Φ : Fin 3 × Fin 2 → sProp 𝕄) :
    bigSep Finset.univ Φ = iprop(Φ (2, 0) ∗ Φ (0, 0) ∗ Φ (1, 0) ∗ Φ (2, 1) ∗ Φ (0, 1) ∗ Φ (1, 1)) :=
  bigSep_univ_eq_bigSepL [(2, 0), (0, 0), (1, 0), (2, 1), (0, 1), (1, 1)] (by decide) (by decide) Φ

theorem vec3_eta {α : Type} (f : Fin 3 → α) : ![f 0, f 1, f 2] = f := by
  funext i; fin_cases i <;> rfl

/-- A layer's value is the next activation. -/
theorem layer_val (l : Fin 3) :
    layerVal (k0_pay1 (act m l.val c) (winLd m l c)) ![commLd m l 0 0 c, commLd m l 1 0 c, commLd m l 2 0 c]
      ![commLd m l 0 1 c, commLd m l 1 1 c, commLd m l 2 1 c] (woutLd m l 0 c) (woutLd m l 1 c) = act m (l.val + 1) c := by
  rw [act_succ]
  unfold next
  rw [← vec3_eta (fun s => commLdOf m (act m l.val) l s 0 c), ← vec3_eta (fun s => commLdOf m (act m l.val) l s 1 c)]

/-- One send: the piece's token bundle, the sent third, and the unit owed go; the send cell with its credit stays. -/
theorem step_send (l j : Fin 3) (h : Fin 2) {O : CellTallies nD τ sig Unit} {α : Type} {Q : α → sProp 𝕄} {p : PUnit → KProg F α} :
    iprop(known m K ∗ sendIn c l (j, h) ∗ pts c (sbV l h) (third j) (sbBuf m l h c) ∗ Ow c (O + recvOwe c l j h))
      ⊢ iprop(((copyIn c (.lay l (.send j h)) ∗ Ow c O) -∗ WP c (p ⟨⟩) Q) -∗ WP c (send l (peer c (step j)) j h >>= p) Q) := by
  unfold sendIn copyIn
  iintro ⟨#HK, ⟨Hs, Hat⟩, Hp, HO⟩ Hk
  iapply (wp_send_piece m K c l j h) $$ [Hs Hp HO]
  · isplitr; · iexact HK
    isplitl [Hs]; · iexact Hs
    isplitl [Hp]; · iexact Hp
    iexact HO
  iintro ⟨Hc, HO⟩
  iapply Hk
  isplitl [Hc Hat]
  · isplitl [Hc]; · iexact Hc
    iexact Hat
  iexact HO

/-- One receive: the wait and the load of what landed. -/
theorem step_recv (l s : Fin 3) (h : Fin 2) {O : CellTallies nD τ sig Unit} (hO : Above (2 + l.val) O) {α : Type} {Q : α → sProp 𝕄}
    {p : Vec F S1x1x64x512 .bf16 → KProg F α} :
    iprop(known m K ∗ recvIn c l (s, h) ∗ Ow c O)
      ⊢ iprop(((recvOut m c l (s, h) ∗ Ow c O) -∗ WP c (p (commLd m l s h c)) Q) -∗ WP c (waitRecv l s h >>= fun _ => loadComm l s h >>= p) Q) := by
  unfold recvIn recvOut
  iintro ⟨#HK, ⟨Hc, Hat⟩, HO⟩ Hk
  iapply (wp_waitRecv m K c l s h hO) $$ [Hc Hat HO]
  · isplitr; · iexact HK
    isplitl [Hc]; · iexact Hc
    isplitl [Hat]; · iexact Hat
    iexact HO
  rw [pay_recv]
  iintro ⟨HO, Hat, Hp⟩
  iapply (wp_loadComm m c l s h) $$ [Hp]
  · iexact Hp
  iintro Hp
  iapply Hk
  isplitl [Hat Hp]
  · isplitl [Hat]; · iexact Hat
    iexact Hp
  iexact HO

/-- One wait for a send: the third comes back. -/
theorem step_sent (l j : Fin 3) (h : Fin 2) {O : CellTallies nD τ sig Unit} (hO : Above 0 O) {α : Type} {Q : α → sProp 𝕄} {p : PUnit → KProg F α} :
    iprop(known m K ∗ copyIn c (.lay l (.send j h)) ∗ Ow c O)
      ⊢ iprop(((at1 c (.lay l (.send j h)) ∗ pts c (sbV l h) (third j) (sbBuf m l h c) ∗ Ow c O) -∗ WP c (p ⟨⟩) Q) -∗ WP c (waitSend l j h >>= p) Q) := by
  unfold copyIn
  iintro ⟨#HK, ⟨Hc, Hat⟩, HO⟩ Hk
  iapply (wp_waitSend m K c l j h hO) $$ [Hc Hat HO]
  · isplitr; · iexact HK
    isplitl [Hc]; · iexact Hc
    isplitl [Hat]; · iexact Hat
    iexact HO
  rw [pay_send]
  iintro ⟨HO, Hat, Hp⟩
  iapply Hk
  isplitl [Hat]; · iexact Hat
  isplitl [Hp]; · iexact Hp
  iexact HO

/-- The wait for a weight's copy. -/
theorem step_win (l : Fin 3) {O : CellTallies nD τ sig Unit} (hO : Above 0 O) {α : Type} {Q : α → sProp 𝕄} {p : Vec F S1x512x1024 .f32 → KProg F α} :
    iprop(known m K ∗ copyIn c (.lay l .win) ∗ Ow c O)
      ⊢ iprop(((copyOut m c (.lay l .win) ∗ Ow c O) -∗ WP c (p (winLd m l c)) Q) -∗ WP c (waitWin l >>= fun _ => loadWin l >>= p) Q) := by
  unfold copyIn copyOut
  iintro ⟨#HK, ⟨Hc, Hat⟩, HO⟩ Hk
  iapply (wp_waitWin m K c l hO) $$ [Hc Hat HO]
  · isplitr; · iexact HK
    isplitl [Hc]; · iexact Hc
    isplitl [Hat]; · iexact Hat
    iexact HO
  unfold pay
  iintro ⟨HO, Hat, Hp, Ha⟩
  iapply (wp_loadWin m c l) $$ Hp
  iintro Hp
  iapply Hk
  isplitl [Hat Hp Ha]
  · isplitl [Hat]; · iexact Hat
    isplitl [Hp]; · iexact Hp
    iexact Ha
  iexact HO

set_option maxHeartbeats 1000000 in
/-- Layer `l` on device `c`. -/
theorem wp_layer (l : Fin 3) {R : CellTallies nD τ sig Unit} (hR : Above (2 + l.val) R) {Q : FVec F S64x512 .f32 → sProp 𝕄} :
    iprop(known m K ∗ layIn c l ∗ Ow c (layOwe c l R))
      ⊢ iprop(((layOut m c l ∗ Ow c R) -∗ Q (act m (l.val + 1) c)) -∗ WP c (layer (fun _ j => peer c (step j)) l (act m l.val c)) Q) := by
  have hR0 : Above 0 R := hR.mono (Nat.zero_le _)
  have hL0 : Above 0 (layOwe c l R) := above_layOwe c l hR0 (by omega)
  unfold layIn layer
  rw [over_sends, over_recvs]
  iintro ⟨#HK, ⟨Hwin, Hwout, ⟨%f, Hsb⟩, ⟨Hs10, Hs00, Hs20, Hs11, Hs01, Hs21⟩, Hr20, Hr00, Hr10, Hr21, Hr01, Hr11⟩, HO⟩ Hk
  iapply (step_win m K c l hL0) $$ [Hwin HO]
  · isplitr; · iexact HK
    isplitl [Hwin]; · iexact Hwin
    iexact HO
  iintro ⟨Hwin, HO⟩
  iapply (wp_loadSb c l) $$ Hsb
  iintro %v Hsb
  iapply (wp_storeSb m c l) $$ Hsb
  iintro Hsb
  ihave Hsb := (Entails.of_eq (show sbPlane c l ((sbM.access (sbLR l)).write (Elt F) (ini m c sbM) (k0_pay2 (act m l.val c) (winLd m l c)) Finset.univ)
    = sbPlane c l (sbBufOf m (act m l.val) l c) from rfl)) $$ Hsb
  ihave Hsb' := (sbPlane_split m c l).1 $$ Hsb
  icases Hsb' with ⟨⟨Hp00, Hp10, Hp20⟩, Hp01, Hp11, Hp21⟩
  unfold layOwe
  -- the six transfers
  iapply (step_send m K c l 1 0) $$ [Hs10 Hp10 HO]
  · isplitr; · iexact HK
    isplitl [Hs10]; · iexact Hs10
    isplitl [Hp10]; · iexact Hp10
    iexact HO
  iintro ⟨Hs10, HO⟩
  iapply (step_send m K c l 0 0) $$ [Hs00 Hp00 HO]
  · isplitr; · iexact HK
    isplitl [Hs00]; · iexact Hs00
    isplitl [Hp00]; · iexact Hp00
    iexact HO
  iintro ⟨Hs00, HO⟩
  iapply (step_send m K c l 2 0) $$ [Hs20 Hp20 HO]
  · isplitr; · iexact HK
    isplitl [Hs20]; · iexact Hs20
    isplitl [Hp20]; · iexact Hp20
    iexact HO
  iintro ⟨Hs20, HO⟩
  iapply (step_send m K c l 1 1) $$ [Hs11 Hp11 HO]
  · isplitr; · iexact HK
    isplitl [Hs11]; · iexact Hs11
    isplitl [Hp11]; · iexact Hp11
    iexact HO
  iintro ⟨Hs11, HO⟩
  iapply (step_send m K c l 0 1) $$ [Hs01 Hp01 HO]
  · isplitr; · iexact HK
    isplitl [Hs01]; · iexact Hs01
    isplitl [Hp01]; · iexact Hp01
    iexact HO
  iintro ⟨Hs01, HO⟩
  iapply (step_send m K c l 2 1) $$ [Hs21 Hp21 HO]
  · isplitr; · iexact HK
    isplitl [Hs21]; · iexact Hs21
    isplitl [Hp21]; · iexact Hp21
    iexact HO
  iintro ⟨Hs21, HO⟩
  -- the second weight
  unfold copyIn copyOut
  icases Hwout with ⟨Hcw, Haw⟩
  iapply (wp_waitWout m K c l hR0) $$ [Hcw Haw HO]
  · isplitr; · iexact HK
    isplitl [Hcw]; · iexact Hcw
    isplitl [Haw]; · iexact Haw
    iexact HO
  iintro ⟨HO, Haw, Hpw⟩
  ihave Hpw' := (Entails.of_eq (pay_wout m c l)) $$ Hpw
  icases Hpw' with ⟨Hwo, Hwa⟩
  -- the first half of the columns
  iapply (step_recv m K c l 2 0 hR) $$ [Hr20 HO]
  · isplitr; · iexact HK
    isplitl [Hr20]; · iexact Hr20
    iexact HO
  iintro ⟨Hr20, HO⟩
  iapply (step_recv m K c l 0 0 hR) $$ [Hr00 HO]
  · isplitr; · iexact HK
    isplitl [Hr00]; · iexact Hr00
    iexact HO
  iintro ⟨Hr00, HO⟩
  iapply (step_recv m K c l 1 0 hR) $$ [Hr10 HO]
  · isplitr; · iexact HK
    isplitl [Hr10]; · iexact Hr10
    iexact HO
  iintro ⟨Hr10, HO⟩
  iapply (wp_loadWout m c l 0) $$ Hwo
  iintro Hwo
  -- the second
  iapply (step_recv m K c l 2 1 hR) $$ [Hr21 HO]
  · isplitr; · iexact HK
    isplitl [Hr21]; · iexact Hr21
    iexact HO
  iintro ⟨Hr21, HO⟩
  iapply (step_recv m K c l 0 1 hR) $$ [Hr01 HO]
  · isplitr; · iexact HK
    isplitl [Hr01]; · iexact Hr01
    iexact HO
  iintro ⟨Hr01, HO⟩
  iapply (step_recv m K c l 1 1 hR) $$ [Hr11 HO]
  · isplitr; · iexact HK
    isplitl [Hr11]; · iexact Hr11
    iexact HO
  iintro ⟨Hr11, HO⟩
  iapply (wp_loadWout m c l 1) $$ Hwo
  iintro Hwo
  -- the six sends come back
  iapply (step_sent m K c l 1 0 hR0) $$ [Hs10 HO]
  · isplitr; · iexact HK
    isplitl [Hs10]; · unfold copyIn; iexact Hs10
    iexact HO
  iintro ⟨Hs10, Hp10, HO⟩
  iapply (step_sent m K c l 0 0 hR0) $$ [Hs00 HO]
  · isplitr; · iexact HK
    isplitl [Hs00]; · unfold copyIn; iexact Hs00
    iexact HO
  iintro ⟨Hs00, Hp00, HO⟩
  iapply (step_sent m K c l 2 0 hR0) $$ [Hs20 HO]
  · isplitr; · iexact HK
    isplitl [Hs20]; · unfold copyIn; iexact Hs20
    iexact HO
  iintro ⟨Hs20, Hp20, HO⟩
  iapply (step_sent m K c l 1 1 hR0) $$ [Hs11 HO]
  · isplitr; · iexact HK
    isplitl [Hs11]; · unfold copyIn; iexact Hs11
    iexact HO
  iintro ⟨Hs11, Hp11, HO⟩
  iapply (step_sent m K c l 0 1 hR0) $$ [Hs01 HO]
  · isplitr; · iexact HK
    isplitl [Hs01]; · unfold copyIn; iexact Hs01
    iexact HO
  iintro ⟨Hs01, Hp01, HO⟩
  iapply (step_sent m K c l 2 1 hR0) $$ [Hs21 HO]
  · isplitr; · iexact HK
    isplitl [Hs21]; · unfold copyIn; iexact Hs21
    iexact HO
  iintro ⟨Hs21, Hp21, HO⟩
  ihave Hsb := (sbPlane_split m c l).2 $$ [Hp00 Hp10 Hp20 Hp01 Hp11 Hp21]
  · isplitl [Hp00 Hp10 Hp20]
    · isplitl [Hp00]; · iexact Hp00
      isplitl [Hp10]; · iexact Hp10
      iexact Hp20
    isplitl [Hp01]; · iexact Hp01
    isplitl [Hp11]; · iexact Hp11
    iexact Hp21
  rw [layer_val m c l, Prog.pure_eq_ret]
  unfold WP
  rw [wp_ret]
  imodintro
  iapply Hk
  unfold layOut
  rw [over_sends, over_recvs]
  isplitr [HO]
  · isplitl [Hwin]; · unfold copyOut; iexact Hwin
    isplitl [Haw Hwo Hwa]
    · unfold copyOut
      isplitl [Haw]; · iexact Haw
      iapply (Entails.of_eq (pay_wout m c l).symm)
      isplitl [Hwo]; · iexact Hwo
      iexact Hwa
    isplitl [Hsb]; · iexists _; iexact Hsb
    isplitl [Hs10 Hs00 Hs20 Hs11 Hs01 Hs21]
    · isplitl [Hs10]; · iexact Hs10
      isplitl [Hs00]; · iexact Hs00
      isplitl [Hs20]; · iexact Hs20
      isplitl [Hs11]; · iexact Hs11
      isplitl [Hs01]; · iexact Hs01
      iexact Hs21
    isplitl [Hr20]; · iexact Hr20
    isplitl [Hr00]; · iexact Hr00
    isplitl [Hr10]; · iexact Hr10
    isplitl [Hr21]; · iexact Hr21
    isplitl [Hr01]; · iexact Hr01
    iexact Hr11
  iexact HO

end Cert.Mlp
-- ==== Proof.Bundles.lean ====
/-
What a device holds, in bundles: its cells key by key, its scratch buffers in pieces, its argument arrays, the tokens and the
credits it works with; and how a layer's share is taken out of them and put back.
-/
module

public import proofs.«01_k».proof.Proof.Layer

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Keys, one kind after another -/

/-- A layer's cells are its two weights', its sends' and its receives'. -/
def lkKinds : (Unit ⊕ Unit) ⊕ ((Fin 3 × Fin 2) ⊕ (Fin 3 × Fin 2)) ≃ LK where
  toFun
    | .inl (.inl _) => .win
    | .inl (.inr _) => .wout
    | .inr (.inl jh) => .send jh.1 jh.2
    | .inr (.inr sh) => .recv sh.1 sh.2
  invFun
    | .win => .inl (.inl ())
    | .wout => .inl (.inr ())
    | .send j h => .inr (.inl (j, h))
    | .recv s h => .inr (.inr (s, h))
  left_inv := by rintro ((_ | _) | (_ | _)) <;> rfl
  right_inv := by rintro (_ | _ | _ | _) <;> rfl

/-- A device's cells are its barrier, the activation's, and the layers'. -/
def keyKinds : (Unit ⊕ Unit) ⊕ (Fin 3 × LK) ≃ Key where
  toFun
    | .inl (.inl _) => .bar
    | .inl (.inr _) => .x
    | .inr lk => .lay lk.1 lk.2
  invFun
    | .bar => .inl (.inl ())
    | .x => .inl (.inr ())
    | .lay l k => .inr (l, k)
  left_inv := by rintro ((_ | _) | _) <;> rfl
  right_inv := by rintro (_ | _ | _) <;> rfl

theorem over_unit (Φ : Unit → sProp 𝕄) : bigSep Finset.univ Φ = Φ () := bigSep_singleton
theorem over_three (Φ : Fin 3 → sProp 𝕄) : bigSep Finset.univ Φ = iprop(Φ 0 ∗ Φ 1 ∗ Φ 2) :=
  bigSep_univ_eq_bigSepL [0, 1, 2] (by decide) (by decide) Φ

theorem over_lks (Φ : LK → sProp 𝕄) : bigSep Finset.univ Φ
    = iprop((Φ .win ∗ Φ .wout) ∗ (bigSep Finset.univ fun jh : Fin 3 × Fin 2 => Φ (.send jh.1 jh.2)) ∗ bigSep Finset.univ fun sh : Fin 3 × Fin 2 => Φ (.recv sh.1 sh.2)) := by
  rw [bigSep_univ_equiv lkKinds, bigSep_univ_sum, bigSep_univ_sum, bigSep_univ_sum, over_unit, over_unit]
  rfl

theorem over_keys (Φ : Key → sProp 𝕄) : bigSep Finset.univ Φ
    = iprop((Φ .bar ∗ Φ .x) ∗ bigSep Finset.univ fun l : Fin 3 => bigSep Finset.univ fun k : LK => Φ (.lay l k)) := by
  rw [bigSep_univ_equiv keyKinds, bigSep_univ_sum, bigSep_univ_sum, over_unit, over_unit, bigSep_univ_prod]
  rfl

/-- Over a first index and a pair, the first index and the pair's first change places. -/
theorem over_swap (Φ : Fin 3 → Fin 3 → Fin 2 → sProp 𝕄) :
    (bigSep Finset.univ fun a => bigSep Finset.univ fun bc : Fin 3 × Fin 2 => Φ a bc.1 bc.2)
      = bigSep Finset.univ fun b => bigSep Finset.univ fun ac : Fin 3 × Fin 2 => Φ ac.1 b ac.2 := by
  have h (Ψ : Fin 3 → Fin 2 → sProp 𝕄) : (bigSep Finset.univ fun bc : Fin 3 × Fin 2 => Ψ bc.1 bc.2) = bigSep Finset.univ fun b => bigSep Finset.univ fun c => Ψ b c :=
    bigSep_univ_prod fun bc : Fin 3 × Fin 2 => Ψ bc.1 bc.2
  rw [bigSep_congr (s := Finset.univ) fun a _ => h (Φ a), bigSep_univ_comm, bigSep_congr (s := Finset.univ) fun b _ => (h fun a c => Φ a b c).symm]

variable (m : (ℓ : Loc nD τ sig) → Buf (Elt F) ℓ) (K : Dev nD × Key → ℕ) (c : Dev nD)

/-! ## Scratch buffers -/

/-- A view of device `c` at any contents. -/
abbrev some' {sp : Space} {s : Shape} {e : EltTy} (M : Memref sig .tc sp s e) : sProp 𝕄 := iprop(∃ f, pts (F := F) c M fullShare f)
theorem some_intro {sp : Space} {s : Shape} {e : EltTy} (M : Memref sig .tc sp s e) (f : Buf (Elt F) (M.view.loc (c : Thread nD τ))) :
    (pts c M fullShare f : sProp 𝕄) ⊢ some' (F := F) c M := by
  iintro H; iexists f; iexact H
/-- A whole buffer at any contents. -/
abbrev someBuf (b : Ref sig .tc) : sProp 𝕄 := iprop(∃ f : Buf (Elt F) ((c : Thread nD τ).loc b), ((c : Thread nD τ).loc b) ↦{fullShare} f)

/-- A buffer cut along rectangles that tile it. -/
theorem buf_cut (b : Ref sig .tc) {B : Type} [Fintype B] [DecidableEq B] (R : B → Rect b.ty.shape)
    (hd : ∀ i j, i ≠ j → Disjoint (R i).set (R j).set) (hc : Finset.univ.biUnion (fun i => (R i).set) = Finset.univ) :
    (someBuf (F := F) c b : sProp 𝕄)
      ⊣⊢ bigSep Finset.univ fun i => iprop(∃ f, ((Memref.whole b).access (R i)).loc (c : Thread nD τ) ↦[((Memref.whole b).access (R i)).set]{fullShare} f) := by
  have hd' : ∀ i j, i ≠ j → Disjoint ((Memref.whole b).access (R i)).set ((Memref.whole b).access (R j)).set := fun i j h => by
    rw [whole_access_set, whole_access_set]; exact hd i j h
  have hc' : Finset.univ.biUnion (fun i => (((Memref.whole b).access (R i)).set : Finset b.ty.shape.Idx)) = Finset.univ :=
    (Finset.biUnion_congr rfl fun i _ => whole_access_set b (R i)).trans hc
  constructor
  · have hs : ∀ f : Buf (Elt F) ((c : Thread nD τ).loc b),
        (bigSep Finset.univ fun i => ((Memref.whole b).access (R i)).loc (c : Thread nD τ) ↦[((Memref.whole b).access (R i)).set]{fullShare} f : sProp 𝕄)
          ⊢ bigSep Finset.univ fun i => iprop(∃ f, ((Memref.whole b).access (R i)).loc (c : Thread nD τ) ↦[((Memref.whole b).access (R i)).set]{fullShare} f) :=
      fun f => bigSep_mono fun i _ => exists_intro (Φ := fun f => ((Memref.whole b).access (R i)).loc (c : Thread nD τ) ↦[((Memref.whole b).access (R i)).set]{fullShare} f) f
    iintro ⟨%f, H⟩
    ihave H := (Entails.of_eq (Ring.pointsTo_blocks (ℓ := (c : Thread nD τ).loc b) (q := fullShare) (Ix := Unit) (Name := ℕ) (U := UU) (Lvl := ℕ)
      (fun i => ((Memref.whole b).access (R i)).set) hd' hc' f)) $$ H
    iapply (hs f) $$ H
  · exact Ring.pointsTo_blocks_join_exists (ℓ := (c : Thread nD τ).loc b) (q := fullShare) (Ix := Unit) (Name := ℕ) (U := UU) (Lvl := ℕ)
      (fun i => ((Memref.whole b).access (R i)).set) hd' hc' (Classical.choice (inferInstance : Nonempty (Buf (Elt F) ((c : Thread nD τ).loc b))))

/-- The stacks of weights by layer. -/
theorem win_cut : (someBuf (F := F) c cc0_scratch3 : sProp 𝕄) ⊣⊢ bigSep Finset.univ fun l : Fin 3 => some' (F := F) c (winV l) := by
  have h := buf_cut (F := F) c cc0_scratch3 winR (plane_disjoint (n := 512) (d := 1024) inbWin) (plane_cover (n := 512) (d := 1024) inbWin)
  rw [bigSep_congr (s := Finset.univ) (fun l _ => show some' (F := F) c (winV l) = _ from by unfold some' pts; rw [winV_set])]
  exact h
theorem wout_cut : (someBuf (F := F) c cc0_scratch4 : sProp 𝕄) ⊣⊢ bigSep Finset.univ fun l : Fin 3 => some' (F := F) c (woutV l) := by
  have h := buf_cut (F := F) c cc0_scratch4 woutR (plane_disjoint (n := 1024) (d := 512) inbWout) (plane_cover (n := 1024) (d := 512) inbWout)
  rw [bigSep_congr (s := Finset.univ) (fun l _ => show some' (F := F) c (woutV l) = _ from by unfold some' pts; rw [woutV_set])]
  exact h
/-- The send buffer by layer. -/
theorem sb_cut : (someBuf (F := F) c cc0_scratch1 : sProp 𝕄) ⊣⊢ bigSep Finset.univ fun l : Fin 3 => iprop(∃ f, sbPlane (F := F) c l f) :=
  buf_cut (F := F) c cc0_scratch1 sbLR (plane_disjoint (n := 64) (d := 1024) inbSbL) (plane_cover (n := 64) (d := 1024) inbSbL)
/-- The receive buffer by layer, slot and half. -/
theorem comm_cut : (someBuf (F := F) c cc0_scratch0 : sProp 𝕄)
    ⊣⊢ bigSep Finset.univ fun l : Fin 3 => bigSep Finset.univ fun sh : Fin 3 × Fin 2 => some' (F := F) c (commV l sh.1 sh.2) := by
  have h := buf_cut (F := F) c cc0_scratch0 (fun b : Piece => commR b.1 b.2.1 b.2.2) comm_disjoint comm_cover
  rw [bigSep_univ_prod] at h
  rw [bigSep_congr (s := Finset.univ) (fun l _ => bigSep_congr (s := Finset.univ) (fun sh _ =>
    show some' (F := F) c (commV l sh.1 sh.2) = _ from by unfold some' pts; rw [commV_set]))]
  exact h

/-- The pieces by slot are the three slots. -/
theorem slots_eq : (bigSep Finset.univ fun l : Fin 3 => bigSep Finset.univ fun sh : Fin 3 × Fin 2 => some' (F := F) c (commV l sh.1 sh.2) : sProp 𝕄)
    = bigSep Finset.univ fun s : Fin 3 => slotFree (F := F) c s :=
  over_swap fun l s h => some' (F := F) c (commV l s h)

/-- The pieces of its peers' slots that device `c` fills. -/
def peerSlots (l : Fin 3) : sProp 𝕄 := bigSep Finset.univ fun jh : Fin 3 × Fin 2 => some' (F := F) (peer c (step jh.1)) (commV l (slot jh.1) jh.2)

theorem barrier_slots : (bigSep Finset.univ fun j : Fin 3 => slotFree (F := F) (peer c (step (Fin.rev j))) j : sProp 𝕄)
    = bigSep Finset.univ fun l : Fin 3 => peerSlots (F := F) c l := by
  rw [bigSep_univ_equiv Fin.revPerm]
  refine Eq.trans (bigSep_congr fun j _ => ?_) (over_swap fun j l h => some' (F := F) (peer c (step j)) (commV l (slot j) h))
  show slotFree (F := F) (peer c (step (Fin.rev (Fin.rev j)))) (Fin.rev j) = _
  rw [Fin.rev_rev]
  rfl

/-! ## Argument arrays -/

/-- The argument arrays of a device, as at launch. -/
def args : sProp 𝕄 :=
  iprop(pts c xArg fullShare (ini m c xArg)
    ∗ bigSep Finset.univ fun l : Fin 3 => iprop(pts c (winArg l) fullShare (ini m c (winArg l)) ∗ pts c (woutArg l) fullShare (ini m c (woutArg l))))

theorem pts_whole (b : Ref sig .tc) (q : PosShare TreeShare) (f : Buf (Elt F) ((c : Thread nD τ).loc b)) :
    (pts c (Memref.whole b) q f : sProp 𝕄) = iprop(((c : Thread nD τ).loc b) ↦{q} f) := by
  unfold pts
  show ((Memref.whole b).view.loc (c : Thread nD τ) ↦[(View.whole b).set]{q} f : sProp 𝕄) = _
  rw [View.set_whole]

/-! ## Tokens and credits -/

/-- The tokens of layer `l` that device `c` pays with. -/
def layToks (l : Fin 3) : sProp 𝕄 :=
  iprop((tok c (.lay l .win) 0 ∗ tok c (.lay l .wout) 0)
    ∗ bigSep Finset.univ fun jh : Fin 3 × Fin 2 => iprop(tok c (.lay l (.send jh.1 jh.2)) 0 ∗ tok (peer c (step jh.1)) (.lay l (.recv (slot jh.1) jh.2)) 0))
/-- All of them. -/
def payToks : sProp 𝕄 :=
  iprop((bigSep Finset.univ fun j : Fin 3 => tok (peer c (step j)) .bar j) ∗ tok c .x 0 ∗ bigSep Finset.univ fun l : Fin 3 => layToks (F := F) c l)
/-- The credits of layer `l`'s landings, and all that it starts with. -/
def layCreds (l : Fin 3) : sProp 𝕄 := bigSep Finset.univ fun sh : Fin 3 × Fin 2 => cred (tallyAt (cell c (.lay l (.recv sh.1 sh.2))) () N)
def creds : sProp 𝕄 := iprop(crd c .bar ∗ bigSep Finset.univ fun l : Fin 3 => layCreds (F := F) c l)

/-! ## A layer's share -/

/-- The layer's transfers' tokens alone. -/
def sendToks (l : Fin 3) : sProp 𝕄 :=
  bigSep Finset.univ fun jh : Fin 3 × Fin 2 => iprop(tok c (.lay l (.send jh.1 jh.2)) 0 ∗ tok (peer c (step jh.1)) (.lay l (.recv (slot jh.1) jh.2)) 0)

/-- The layer's input, gathered. -/
theorem layIn_intro (l : Fin 3) :
    iprop((bigSep Finset.univ fun k : LK => at0 (F := F) c (.lay l k)) ∗ (cred (tallyAt (cell c (.lay l .win)) () (amt (.lay l .win))) ∗ cred (tallyAt (cell c (.lay l .wout)) () (amt (.lay l .wout))))
        ∗ (∃ f, sbPlane (F := F) c l f) ∗ sendToks (F := F) c l ∗ peerSlots (F := F) c l ∗ layCreds (F := F) c l)
      ⊢ layIn (F := F) c l := by
  unfold layIn sendToks peerSlots layCreds sendIn recvIn toSend copyIn
  rw [over_lks]
  simp only [bigSep_sep']
  iintro ⟨⟨⟨Haw, Hao⟩, Has, Har⟩, ⟨Hcw, Hco⟩, Hsb, ⟨Ht, Ht'⟩, Hp, Hc⟩
  isplitl [Haw Hcw]
  · isplitl [Hcw]; · iexact Hcw
    iexact Haw
  isplitl [Hao Hco]
  · isplitl [Hco]; · iexact Hco
    iexact Hao
  isplitl [Hsb]; · iexact Hsb
  isplitl [Has Ht Ht' Hp]
  · isplitr [Has]
    · isplitl [Ht]; · iexact Ht
      isplitl [Ht']; · iexact Ht'
      iexact Hp
    iexact Has
  isplitl [Hc]; · iexact Hc
  iexact Har

theorem landed_some (l : Fin 3) : (bigSep Finset.univ fun sh : Fin 3 × Fin 2 => pts c (commV l sh.1 sh.2) fullShare (commBuf m l sh.1 sh.2 c) : sProp 𝕄)
    ⊢ bigSep Finset.univ fun sh : Fin 3 × Fin 2 => some' (F := F) c (commV l sh.1 sh.2) :=
  bigSep_mono fun sh _ => some_intro c (commV l sh.1 sh.2) _

/-- The layer's output, taken apart: its cells past their round, the buffers at some contents, its two argument arrays. -/
theorem layOut_elim (l : Fin 3) :
    layOut m c l ⊢ iprop((bigSep Finset.univ fun k : LK => at1 (F := F) c (.lay l k)) ∗ (some' (F := F) c (winV l) ∗ some' (F := F) c (woutV l))
      ∗ (∃ f, sbPlane (F := F) c l f) ∗ (bigSep Finset.univ fun sh : Fin 3 × Fin 2 => some' (F := F) c (commV l sh.1 sh.2))
      ∗ pts c (winArg l) fullShare (ini m c (winArg l)) ∗ pts c (woutArg l) fullShare (ini m c (woutArg l))) := by
  unfold layOut recvOut copyOut
  rw [over_lks]
  simp only [bigSep_sep']
  rw [pay_win, pay_wout]
  iintro ⟨⟨Haw, Hw, Hwa⟩, ⟨Hao, Ho, Hoa⟩, Hsb, Has, Har, Hc⟩
  isplitl [Haw Hao Has Har]
  · isplitl [Haw Hao]
    · isplitl [Haw]; · iexact Haw
      iexact Hao
    isplitl [Has]; · iexact Has
    iexact Har
  isplitl [Hw Ho]
  · isplitl [Hw]
    · iapply (some_intro c (winV l) _) $$ Hw
    iapply (some_intro c (woutV l) _) $$ Ho
  isplitl [Hsb]; · iexact Hsb
  isplitl [Hc]
  · iapply (landed_some m c l) $$ Hc
  isplitl [Hwa]; · iexact Hwa
  iexact Hoa

/-! ## Closing the cells -/

/-- A cell past its round closes: its counter, at zero. -/
theorem close_cell (k : Key) : iprop(known m K ∗ at1 c k) ⊢ |={Set.univ}=> (semVal (cell c k) 0 : sProp 𝕄) := by
  iintro ⟨#HK, Hat⟩
  iapply (Rounds.cell_close ER (Rd m) (Set.mem_univ (K (c, k))) (fun h => h) (R := 0 + 1) (duties_later m (cell c k)))
  isplitr; · iapply (known_inv m K c k); iexact HK
  iexact Hat

theorem close_cells : iprop(known m K ∗ bigSep Finset.univ fun k : Key => at1 (F := F) c k)
    ⊢ |={Set.univ}=> bigSep Finset.univ fun k : Key => (semVal (cell c k) 0 : sProp 𝕄) :=
  (((sep_mono_left (BI.bigSep_of_persistent Finset.univ (known m K))).trans (by rw [← bigSep_sep']; exact bigSep_mono fun k _ => close_cell m K c k))).trans
    (bigSep_fupd _ _)

end Cert.Mlp
-- ==== Proof.Body.lean ====
/-
The kernel's body on one device: the copies and the barrier, the three layers, the store of the result.
-/
module

public import proofs.«01_k».proof.Proof.Bundles

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

theorem corner : (![0, 0] : Fin 2 → Nat) = fun _ => 0 := funext fun a => by fin_cases a <;> rfl

/-! ## The prologue -/

/-- The copies of one layer's weights, started. -/
theorem step_weights (l : Fin 3) {α : Type} {Q : α → sProp 𝕄} {p : PUnit → KProg F α} :
    iprop(known m K ∗ (pts c (winArg l) fullShare (ini m c (winArg l)) ∗ pts c (woutArg l) fullShare (ini m c (woutArg l)))
        ∗ some' (F := F) c (winV l) ∗ some' (F := F) c (woutV l) ∗ tok c (.lay l .win) 0 ∗ tok c (.lay l .wout) 0)
      ⊢ iprop(((cred (tallyAt (cell c (.lay l .win)) () (amt (.lay l .win))) ∗ cred (tallyAt (cell c (.lay l .wout)) () (amt (.lay l .wout))))
          -∗ WP c (p ⟨⟩) Q) -∗ WP c (copyWin l >>= fun _ => copyWout l >>= p) Q) := by
  iintro ⟨#HK, ⟨Ha, Hb⟩, ⟨%f, Hf⟩, ⟨%g, Hg⟩, Ht, Ht'⟩ Hk
  iapply (wp_copyWin m K c l) $$ [Ha Hf Ht]
  · isplitr; · iexact HK
    isplitl [Ha]; · iexact Ha
    isplitl [Hf]; · iexact Hf
    iexact Ht
  iintro Hc
  iapply (wp_copyWout m K c l) $$ [Hb Hg Ht']
  · isplitr; · iexact HK
    isplitl [Hb]; · iexact Hb
    isplitl [Hg]; · iexact Hg
    iexact Ht'
  iintro Hc'
  iapply Hk
  isplitl [Hc]; · iexact Hc
  iexact Hc'

theorem pay_x : pay m c .x 0
    = iprop(pts c xM fullShare (xM.view.write (Elt F) (ini m c xM) (x₀ m c) Finset.univ) ∗ pts c xArg fullShare (ini m c xArg)) := rfl

/-- The landed activation, as a load reads it. -/
theorem xM_read : xM.view.readAt (Elt F) (Rect.unit (s := S64x512) ![0, 0] S64x512.size inb_S64x512_S64x512_0_0).toLoadRect
    (xM.view.write (Elt F) (ini m c xM) (x₀ m c) Finset.univ) = x₀ m c := by
  exact (Memref.readAt_unit_zero (Elt F) cc0_scratch2 corner _ _).trans (View.write_whole_univ _ _ _)

theorem wp_loadX {α : Type} {p : Vec F S64x512 .f32 → KProg F α} {Q : α → sProp 𝕄} :
    pts c xM fullShare (xM.view.write (Elt F) (ini m c xM) (x₀ m c) Finset.univ)
      ⊢ iprop((pts c xM fullShare (xM.view.write (Elt F) (ini m c xM) (x₀ m c) Finset.univ) -∗ WP c (p (x₀ m c)) Q) -∗ WP c (loadX >>= p) Q) := by
  have h : pts c xM fullShare (xM.view.write (Elt F) (ini m c xM) (x₀ m c) Finset.univ)
      ⊢ iprop((pts c xM fullShare (xM.view.write (Elt F) (ini m c xM) (x₀ m c) Finset.univ)
        -∗ WP c (p (xM.view.readAt (Elt F) (Rect.unit (s := S64x512) ![0, 0] S64x512.size inb_S64x512_S64x512_0_0).toLoadRect
          (xM.view.write (Elt F) (ini m c xM) (x₀ m c) Finset.univ))) Q) -∗ WP c (loadX >>= p) Q) :=
    wp_load_rect 𝒱₀ (c : Thread nD τ) none Set.univ (m := xM) (r := Rect.unit (s := S64x512) ![0, 0] S64x512.size inb_S64x512_S64x512_0_0)
      (k := p) (S := xM.view.set) (by rw [View.set_whole]; exact Finset.subset_univ _)
  rw [xM_read] at h
  exact h

/-- The prologue: the copies under way, the activation landed and read, the barrier passed with the peers' slots. -/
theorem wp_prologue {Q : FVec F S64x512 .f32 → sProp 𝕄} :
    iprop(known m K ∗ args m c ∗ some' (F := F) c xM
        ∗ (bigSep Finset.univ fun l : Fin 3 => some' (F := F) c (winV l)) ∗ (bigSep Finset.univ fun l : Fin 3 => some' (F := F) c (woutV l))
        ∗ (bigSep Finset.univ fun s : Fin 3 => slotFree (F := F) c s)
        ∗ (bigSep Finset.univ fun j : Fin 3 => tok (peer c (step j)) .bar j) ∗ tok c .x 0
        ∗ (bigSep Finset.univ fun l : Fin 3 => iprop(tok c (.lay l .win) 0 ∗ tok c (.lay l .wout) 0))
        ∗ crd c .bar ∗ at0 c .bar ∗ at0 c .x ∗ Ow c (O₀ c))
      ⊢ iprop(((bigSep Finset.univ fun l : Fin 3 => iprop(cred (tallyAt (cell c (.lay l .win)) () (amt (.lay l .win))) ∗ cred (tallyAt (cell c (.lay l .wout)) () (amt (.lay l .wout)))))
            ∗ (bigSep Finset.univ fun l : Fin 3 => peerSlots (F := F) c l) ∗ some' (F := F) c xM ∗ pts c xArg fullShare (ini m c xArg)
            ∗ at1 c .bar ∗ at1 c .x ∗ Ow c (owe0 c) -∗ Q (act m 0 c))
          -∗ WP c (prologue fun j => peer c (step j)) Q) := by
  unfold args prologue O₀
  simp only [over_three]
  iintro ⟨#HK, ⟨Hx, Ha0, Ha1, Ha2⟩, ⟨%f, Hxm⟩, ⟨Hw0, Hw1, Hw2⟩, ⟨Ho0, Ho1, Ho2⟩, ⟨Hs0, Hs1, Hs2⟩, ⟨Hb0, Hb1, Hb2⟩, Htx, ⟨⟨Hi0, Hj0⟩, ⟨Hi1, Hj1⟩, ⟨Hi2, Hj2⟩⟩, Hcb, Hab, Hax, HO⟩ Hk
  iapply (wp_copyX m K c) $$ [Hx Hxm Htx]
  · isplitr; · iexact HK
    isplitl [Hx]; · iexact Hx
    isplitl [Hxm]; · iexact Hxm
    iexact Htx
  iintro Hcx
  iapply (step_weights m K c 0) $$ [Ha0 Hw0 Ho0 Hi0 Hj0]
  · isplitr; · iexact HK
    isplitl [Ha0]; · iexact Ha0
    isplitl [Hw0]; · iexact Hw0
    isplitl [Ho0]; · iexact Ho0
    isplitl [Hi0]; · iexact Hi0
    iexact Hj0
  iintro Hc0
  iapply (step_weights m K c 1) $$ [Ha1 Hw1 Ho1 Hi1 Hj1]
  · isplitr; · iexact HK
    isplitl [Ha1]; · iexact Ha1
    isplitl [Hw1]; · iexact Hw1
    isplitl [Ho1]; · iexact Ho1
    isplitl [Hi1]; · iexact Hi1
    iexact Hj1
  iintro Hc1
  iapply (step_weights m K c 2) $$ [Ha2 Hw2 Ho2 Hi2 Hj2]
  · isplitr; · iexact HK
    isplitl [Ha2]; · iexact Ha2
    isplitl [Hw2]; · iexact Hw2
    isplitl [Ho2]; · iexact Ho2
    isplitl [Hi2]; · iexact Hi2
    iexact Hj2
  iintro Hc2
  -- the barrier
  iapply (wp_signal_peer m K c 0) $$ [Hb0 Hs0 HO]
  · isplitr; · iexact HK
    isplitl [Hb0]; · iexact Hb0
    isplitl [Hs0]; · iexact Hs0
    iexact HO
  iintro HO
  iapply (wp_signal_peer m K c 1) $$ [Hb1 Hs1 HO]
  · isplitr; · iexact HK
    isplitl [Hb1]; · iexact Hb1
    isplitl [Hs1]; · iexact Hs1
    iexact HO
  iintro HO
  iapply (wp_signal_peer m K c 2) $$ [Hb2 Hs2 HO]
  · isplitr; · iexact HK
    isplitl [Hb2]; · iexact Hb2
    isplitl [Hs2]; · iexact Hs2
    iexact HO
  iintro HO
  iapply (wp_barrier m K c (above_owe0 c)) $$ [Hcb Hab HO]
  · isplitr; · iexact HK
    isplitl [Hcb]; · iexact Hcb
    isplitl [Hab]; · iexact Hab
    iexact HO
  iintro ⟨HO, Hab, Hslots⟩
  ihave Hslots := (Entails.of_eq (barrier_slots (F := F) c)) $$ Hslots
  -- the activation
  iapply (wp_waitX m K c ((above_owe0 c).mono (by decide))) $$ [Hcx Hax HO]
  · isplitr; · iexact HK
    isplitl [Hcx]; · iexact Hcx
    isplitl [Hax]; · iexact Hax
    iexact HO
  rw [pay_x]
  iintro ⟨HO, Hax, Hxm, Hx⟩
  rw [show (loadX : KProg F (Vec F S64x512 .f32)) = (loadX >>= fun v => Prog.ret v) from rfl]
  iapply (wp_loadX m c) $$ Hxm
  iintro Hxm
  unfold WP
  rw [wp_ret, show x₀ m c = act m 0 c from rfl]
  imodintro
  iapply Hk
  isplitl [Hc0 Hc1 Hc2]
  · isplitl [Hc0]; · iexact Hc0
    isplitl [Hc1]; · iexact Hc1
    iexact Hc2
  isplitl [Hslots]; · rw [← over_three]; iexact Hslots
  isplitl [Hxm]; · iapply (some_intro c xM _) $$ Hxm
  isplitl [Hx]; · iexact Hx
  isplitl [Hab]; · iexact Hab
  isplitl [Hax]; · iexact Hax
  iexact HO

/-! ## The epilogue -/

/-- The staged result, stored whole. -/
theorem wp_storeO (v : FVec F S64x512 .f32) {f : Buf (Elt F) (oM.view.loc (c : Thread nD τ))} {α : Type} {Q : α → sProp 𝕄} {p : PUnit → KProg F α} :
    pts c oM fullShare f ⊢ iprop((pts c oM fullShare v -∗ WP c (p ⟨⟩) Q)
      -∗ WP c ((Prog.lift (.store oM (Rect.unit (s := S64x512) ![0, 0] S64x512.size inb_S64x512_S64x512_0_0) v Finset.univ
        (View.stores_vmem_bits_univ h_S64x512 rfl) (.inl rfl)) : KProg F PUnit) >>= p) Q) := by
  have h : pts c oM fullShare f ⊢ iprop((pts c oM fullShare
        ((oM.access (Rect.unit (s := S64x512) ![0, 0] S64x512.size inb_S64x512_S64x512_0_0)).write (Elt F) f v Finset.univ) -∗ WP c (p ⟨⟩) Q)
      -∗ WP c ((Prog.lift (.store oM (Rect.unit (s := S64x512) ![0, 0] S64x512.size inb_S64x512_S64x512_0_0) v Finset.univ
        (View.stores_vmem_bits_univ h_S64x512 rfl) (.inl rfl)) : KProg F PUnit) >>= p) Q) :=
    wp_store 𝒱₀ (c : Thread nD τ) none Set.univ (m := oM) (k := p) (Mk := Finset.univ) (S := oM.view.set) (f := f)
      (r := Rect.unit (s := S64x512) ![0, 0] S64x512.size inb_S64x512_S64x512_0_0) (by rw [View.set_whole]; exact Finset.subset_univ _)
  have hw : (oM.access (Rect.unit (s := S64x512) ![0, 0] S64x512.size inb_S64x512_S64x512_0_0)).write (Elt F) f v Finset.univ = v :=
    Memref.write_access_unit_zero_univ (Elt F) cc0_stg0_0 corner _ f v
  rw [hw] at h
  exact h

theorem wp_epilogue (v : FVec F S64x512 .f32) {Q : PUnit → sProp 𝕄} :
    some' (F := F) c oM ⊢ iprop((pts c oM fullShare v -∗ Q ⟨⟩) -∗ WP c (epilogue v) Q) := by
  unfold epilogue
  iintro ⟨%f, H⟩ Hk
  iapply (wp_load 𝒱₀ (c : Thread nD τ) none Set.univ (m := oM) (by rw [View.set_whole]; exact Finset.subset_univ _)) $$ H
  iintro H
  iapply (wp_storeO c v) $$ H
  iintro H
  unfold WP
  rw [Prog.pure_eq_ret, wp_ret]
  imodintro
  iapply Hk
  iexact H

/-! ## The body -/

/-- The scratch buffers the kernel works in. -/
def scratch : sProp 𝕄 :=
  iprop(someBuf (F := F) c cc0_scratch0 ∗ someBuf (F := F) c cc0_scratch1 ∗ someBuf (F := F) c cc0_scratch2
    ∗ someBuf (F := F) c cc0_scratch3 ∗ someBuf (F := F) c cc0_scratch4)

/-- What the body takes, beside what every device knows; what it leaves. -/
def bodyIn : sProp 𝕄 :=
  iprop((bigSep Finset.univ fun k : Key => at0 (F := F) c k) ∗ payToks (F := F) c ∗ creds (F := F) c ∗ args m c ∗ scratch (F := F) c ∗ Ow c (O₀ c)
    ∗ some' (F := F) c oM)
def bodyOut : sProp 𝕄 :=
  iprop((bigSep Finset.univ fun k : Key => (semVal (cell c k) 0 : sProp 𝕄)) ∗ args m c ∗ scratch (F := F) c ∗ Ow c 0 ∗ pts c oM fullShare (act m 3 c))

theorem x_cut : (someBuf (F := F) c cc0_scratch2 : sProp 𝕄) = some' (F := F) c xM :=
  congrArg (fun Φ : Buf (Elt F) ((c : Thread nD τ).loc cc0_scratch2) → sProp 𝕄 => iprop(∃ f, Φ f)) (funext fun f => (pts_whole c cc0_scratch2 fullShare f).symm)

/-- The three layers. -/
def layers (x : FVec F S64x512 .f32) : KProg F PUnit := do
  let x₁ ← layer (fun _ j => peer c (step j)) 0 x
  let x₂ ← layer (fun _ j => peer c (step j)) 1 x₁
  let x₃ ← layer (fun _ j => peer c (step j)) 2 x₂
  epilogue x₃

theorem wp_layers {Q : PUnit → sProp 𝕄} :
    iprop(known m K ∗ (bigSep Finset.univ fun l : Fin 3 => layIn (F := F) c l) ∗ Ow c (owe0 c) ∗ some' (F := F) c oM)
      ⊢ iprop((((bigSep Finset.univ fun l : Fin 3 => layOut m c l) ∗ Ow c 0 ∗ pts c oM fullShare (act m 3 c)) -∗ Q ⟨⟩) -∗ WP c (layers c (act m 0 c)) Q) := by
  unfold layers owe0
  rw [over_three, over_three]
  simp only [WP, wp_bind]
  iintro ⟨#HK, ⟨H0, H1, H2⟩, HO, Ho⟩ Hk
  iapply (wp_layer m K c 0 (above_owe1 c)) $$ [H0 HO]
  · isplitr; · iexact HK
    isplitl [H0]; · iexact H0
    iexact HO
  iintro ⟨H0, HO⟩
  unfold owe1
  iapply (wp_layer m K c 1 (above_owe2 c)) $$ [H1 HO]
  · isplitr; · iexact HK
    isplitl [H1]; · iexact H1
    iexact HO
  iintro ⟨H1, HO⟩
  unfold owe2
  iapply (wp_layer m K c 2 (above_zero _)) $$ [H2 HO]
  · isplitr; · iexact HK
    isplitl [H2]; · iexact H2
    iexact HO
  iintro ⟨H2, HO⟩
  iapply (wp_epilogue c (act m 3 c)) $$ Ho
  iintro Ho
  iapply Hk
  isplitl [H0 H1 H2]
  · isplitl [H0]; · iexact H0
    isplitl [H1]; · iexact H1
    iexact H2
  isplitl [HO]; · iexact HO
  iexact Ho

/-- The bundles a layer takes, gathered for the three layers. -/
theorem layIns_intro :
    iprop((bigSep Finset.univ fun l : Fin 3 => bigSep Finset.univ fun k : LK => at0 (F := F) c (.lay l k))
        ∗ (bigSep Finset.univ fun l : Fin 3 => iprop(cred (tallyAt (cell c (.lay l .win)) () (amt (.lay l .win))) ∗ cred (tallyAt (cell c (.lay l .wout)) () (amt (.lay l .wout)))))
        ∗ (bigSep Finset.univ fun l : Fin 3 => iprop(∃ f, sbPlane (F := F) c l f)) ∗ (bigSep Finset.univ fun l : Fin 3 => sendToks (F := F) c l)
        ∗ (bigSep Finset.univ fun l : Fin 3 => peerSlots (F := F) c l) ∗ bigSep Finset.univ fun l : Fin 3 => layCreds (F := F) c l)
      ⊢ bigSep Finset.univ fun l : Fin 3 => layIn (F := F) c l := by
  rw [← bigSep_sep', ← bigSep_sep', ← bigSep_sep', ← bigSep_sep', ← bigSep_sep']
  exact bigSep_mono fun l _ => layIn_intro (F := F) c l

/-- What the three layers leave, by kind. -/
theorem layOuts_elim :
    (bigSep Finset.univ fun l : Fin 3 => layOut m c l)
      ⊢ iprop((bigSep Finset.univ fun l : Fin 3 => bigSep Finset.univ fun k : LK => at1 (F := F) c (.lay l k))
        ∗ ((bigSep Finset.univ fun l : Fin 3 => some' (F := F) c (winV l)) ∗ bigSep Finset.univ fun l : Fin 3 => some' (F := F) c (woutV l))
        ∗ (bigSep Finset.univ fun l : Fin 3 => iprop(∃ f, sbPlane (F := F) c l f))
        ∗ (bigSep Finset.univ fun l : Fin 3 => bigSep Finset.univ fun sh : Fin 3 × Fin 2 => some' (F := F) c (commV l sh.1 sh.2))
        ∗ bigSep Finset.univ fun l : Fin 3 => iprop(pts c (winArg l) fullShare (ini m c (winArg l)) ∗ pts c (woutArg l) fullShare (ini m c (woutArg l)))) := by
  rw [← bigSep_sep', ← bigSep_sep', ← bigSep_sep', ← bigSep_sep', ← bigSep_sep']
  exact bigSep_mono fun l _ => layOut_elim m c l

set_option maxHeartbeats 1000000 in
/-- The body, from its bundles to its bundles. -/
theorem wp_body {Q : PUnit → sProp 𝕄} :
    iprop(known m K ∗ bodyIn m c) ⊢ iprop((bodyOut m c -∗ Q ⟨⟩)
      -∗ WP c (prologue (fun j => peer c (step j)) >>= layers c) Q) := by
  unfold bodyIn scratch payToks creds layToks
  rw [over_keys, x_cut, bigSep_sep']
  iintro ⟨#HK, ⟨⟨Hab, Hax⟩, Hal⟩, ⟨Htb, Htx, Htw, Hts⟩, ⟨Hcb, Hcl⟩, Hargs, ⟨H0, H1, H2, H3, H4⟩, HO, Ho⟩ Hk
  ihave H0 := (comm_cut (F := F) c).1 $$ H0
  ihave H0 := (Entails.of_eq (slots_eq (F := F) c)) $$ H0
  ihave H1 := (sb_cut (F := F) c).1 $$ H1
  ihave H3 := (win_cut (F := F) c).1 $$ H3
  ihave H4 := (wout_cut (F := F) c).1 $$ H4
  simp only [WP, wp_bind]
  iapply (wp_prologue m K c) $$ [Hargs H2 H3 H4 H0 Htb Htx Htw Hcb Hab Hax HO]
  · isplitr; · iexact HK
    isplitl [Hargs]; · iexact Hargs
    isplitl [H2]; · iexact H2
    isplitl [H3]; · iexact H3
    isplitl [H4]; · iexact H4
    isplitl [H0]; · iexact H0
    isplitl [Htb]; · iexact Htb
    isplitl [Htx]; · iexact Htx
    isplitl [Htw]; · iexact Htw
    isplitl [Hcb]; · iexact Hcb
    isplitl [Hab]; · iexact Hab
    isplitl [Hax]; · iexact Hax
    iexact HO
  iintro ⟨Hcw, Hps, H2, Hx, Hab, Hax, HO⟩
  ihave Hin := (layIns_intro (F := F) c) $$ [Hal Hcw H1 Hts Hps Hcl]
  · isplitl [Hal]; · iexact Hal
    isplitl [Hcw]; · iexact Hcw
    isplitl [H1]; · iexact H1
    isplitl [Hts]; · unfold sendToks; iexact Hts
    isplitl [Hps]; · iexact Hps
    iexact Hcl
  iapply wp_fupd
  iapply (wp_layers m K c) $$ [Hin HO Ho]
  · isplitr; · iexact HK
    isplitl [Hin]; · iexact Hin
    isplitl [HO]; · iexact HO
    iexact Ho
  iintro ⟨Hout, HO, Ho⟩
  ihave Hout := (layOuts_elim m c) $$ Hout
  icases Hout with ⟨Hal, ⟨H3, H4⟩, H1, H0, Ha⟩
  imod (close_cells m K c) $$ [Hab Hax Hal] with Hz
  · isplitr; · iexact HK
    rw [over_keys]
    isplitl [Hab Hax]
    · isplitl [Hab]; · iexact Hab
      iexact Hax
    iexact Hal
  imodintro
  iapply Hk
  unfold bodyOut scratch args
  isplitl [Hz]; · iexact Hz
  isplitl [Hx Ha]
  · isplitl [Hx]; · iexact Hx
    iexact Ha
  isplitl [H0 H1 H2 H3 H4]
  · isplitl [H0]; · iapply (comm_cut (F := F) c).2 $$ H0
    isplitl [H1]; · iapply (sb_cut (F := F) c).2 $$ H1
    isplitl [H2]; · rw [x_cut]; iexact H2
    isplitl [H3]; · iapply (win_cut (F := F) c).2 $$ H3
    iapply (wout_cut (F := F) c).2 $$ H4
  isplitl [HO]; · iexact HO
  iexact Ho

end Cert.Mlp
-- ==== Proof.Deal.lean ====
/-
What the launch deals: the tokens of every cell, minted at the cell's own device and handed to the devices that pay the
duties; the credit of every cell, which is what the devices together owe it.
-/
module

public import proofs.«01_k».proof.Proof.Body

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Around the mesh -/

/-- Every device moved `k` places on. -/
def rot (k : Fin 4) : Dev nD ≃ Dev nD where
  toFun c := peer c k
  invFun c := peer c (-k)
  left_inv := by revert k; decide
  right_inv := by revert k; decide

/-- A family over devices and an index, each index's moved its own way around the mesh. -/
theorem around {I : Type} [Fintype I] (k : I → Fin 4) (Φ : Dev nD → I → sProp 𝕄) :
    (bigSep Finset.univ fun c => bigSep Finset.univ fun i => Φ c i) = bigSep Finset.univ fun c => bigSep Finset.univ fun i => Φ (peer c (k i)) i := by
  rw [bigSep_univ_comm, bigSep_univ_comm fun c i => Φ (peer c (k i)) i]
  exact bigSep_congr fun i _ => bigSep_univ_equiv (rot (k i)) fun c => Φ c i

/-- A transfer's index and half against the slot and half it lands in. -/
def landing : Fin 3 × Fin 2 ≃ Fin 3 × Fin 2 := Fin.revPerm.prodCongr (Equiv.refl _)

/-! ## Tokens -/

/-- The tokens of the cells of device `c`. -/
def ownToks (c : Dev nD) : sProp 𝕄 :=
  iprop((bigSep Finset.univ fun j : Fin 3 => tok c .bar j) ∗ tok c .x 0 ∗ bigSep Finset.univ fun l : Fin 3 => bigSep Finset.univ fun k : LK => tok c (.lay l k) 0)

theorem lay_around (l : Fin 3) :
    (bigSep Finset.univ fun c : Dev nD => bigSep Finset.univ fun k : LK => (tok c (.lay l k) 0 : sProp 𝕄)) = bigSep Finset.univ fun c : Dev nD => layToks (F := F) c l := by
  have hr : (bigSep Finset.univ fun c : Dev nD => bigSep Finset.univ fun sh : Fin 3 × Fin 2 => (tok c (.lay l (.recv sh.1 sh.2)) 0 : sProp 𝕄))
      = bigSep Finset.univ fun c : Dev nD => bigSep Finset.univ fun jh : Fin 3 × Fin 2 => (tok (peer c (step jh.1)) (.lay l (.recv (slot jh.1) jh.2)) 0 : sProp 𝕄) := by
    rw [← around (fun jh : Fin 3 × Fin 2 => step jh.1) fun c jh => (tok c (.lay l (.recv (slot jh.1) jh.2)) 0 : sProp 𝕄)]
    exact bigSep_congr fun c _ => bigSep_univ_equiv landing fun sh => (tok c (.lay l (.recv sh.1 sh.2)) 0 : sProp 𝕄)
  unfold layToks
  rw [bigSep_congr (s := Finset.univ) fun (c : Dev nD) _ => over_lks fun k => (tok c (.lay l k) 0 : sProp 𝕄)]
  simp only [bigSep_sep']
  rw [hr]

/-- The tokens dealt to the devices that pay. -/
theorem toks_around : (bigSep Finset.univ fun c : Dev nD => ownToks (F := F) c) = bigSep Finset.univ fun c : Dev nD => payToks (F := F) c := by
  have hl : (bigSep Finset.univ fun c : Dev nD => bigSep Finset.univ fun l : Fin 3 => bigSep Finset.univ fun k : LK => (tok c (.lay l k) 0 : sProp 𝕄))
      = bigSep Finset.univ fun c : Dev nD => bigSep Finset.univ fun l : Fin 3 => layToks (F := F) c l := by
    rw [bigSep_univ_comm, bigSep_univ_comm fun (c : Dev nD) (l : Fin 3) => layToks (F := F) c l]
    exact bigSep_congr fun l _ => lay_around l
  unfold ownToks payToks
  rw [bigSep_sep', bigSep_sep', bigSep_sep', bigSep_sep', hl, around step fun c j => (tok c .bar j : sProp 𝕄)]

/-! ## Credits -/

/-- How often a device's debts of index `j` meet the barrier cell of `c`, and the receive cell of `c`. -/
def barMeets (d c : Dev nD) (k : Key) (j : Fin 3) : ℕ := if c = peer d (step j) ∧ k = .bar then 1 else 0
def recvMeets (d c : Dev nD) (k : Key) (l j : Fin 3) (h : Fin 2) : ℕ := if c = peer d (step j) ∧ k = .lay l (.recv (slot j) h) then 1 else 0

theorem cell_eq_iff {c c' : Dev nD} {k k' : Key} : cell c k = cell c' k' ↔ c = c' ∧ k = k' := by
  constructor
  · intro h
    exact ⟨congrArg (fun g : GSem nD τ sig => g.1.1) h, csem_injective (congrArg Prod.snd h)⟩
  · rintro ⟨rfl, rfl⟩; rfl

theorem barOwe_at (d c : Dev nD) (k : Key) (j : Fin 3) : barOwe d j (cell c k) () = barMeets d c k j := by
  unfold barOwe barMeets
  rw [tallyAt_apply]
  exact if_congr (by rw [cell_eq_iff]; exact and_iff_left rfl) rfl rfl
theorem recvOwe_at (d c : Dev nD) (k : Key) (l j : Fin 3) (h : Fin 2) : recvOwe d l j h (cell c k) () = recvMeets d c k l j h * N := by
  unfold recvOwe recvMeets
  rw [tallyAt_apply, ite_mul, Nat.one_mul, Nat.zero_mul]
  exact if_congr (by rw [cell_eq_iff]; exact and_iff_left rfl) rfl rfl

def layMeets (d c : Dev nD) (k : Key) (l : Fin 3) : ℕ :=
  recvMeets d c k l 2 1 + recvMeets d c k l 0 1 + recvMeets d c k l 1 1 + recvMeets d c k l 2 0 + recvMeets d c k l 0 0 + recvMeets d c k l 1 0

theorem layOwe_at (d c : Dev nD) (k : Key) (l : Fin 3) (R : CellTallies nD τ sig Unit) :
    layOwe d l R (cell c k) () = R (cell c k) () + layMeets d c k l * N := by
  unfold layOwe layMeets
  simp only [Pi.add_apply, Finsupp.add_apply, recvOwe_at, add_mul]
  ac_rfl

theorem owed_at (d c : Dev nD) (k : Key) : O₀ d (cell c k) ()
    = (barMeets d c k 0 + barMeets d c k 1 + barMeets d c k 2) + (layMeets d c k 0 + layMeets d c k 1 + layMeets d c k 2) * N := by
  unfold O₀ owe0 owe1 owe2
  simp only [Pi.add_apply, Finsupp.add_apply, layOwe_at, barOwe_at, Pi.zero_apply, Finsupp.zero_apply, zero_add, add_mul]
  ac_rfl

/-- A cell that others owe has three units owed if a barrier's, one landing if a receive's. -/
theorem owed_sum (c : Dev nD) (k : Key) : ∑ d : Dev nD, O₀ d (cell c k) ()
    = (∑ d : Dev nD, (barMeets d c k 0 + barMeets d c k 1 + barMeets d c k 2)) + (∑ d : Dev nD, (layMeets d c k 0 + layMeets d c k 1 + layMeets d c k 2)) * N := by
  rw [Finset.sum_mul, ← Finset.sum_add_distrib]
  exact Finset.sum_congr rfl fun d _ => owed_at d c k

theorem owed_bar (c : Dev nD) : ∑ d : Dev nD, O₀ d (cell c .bar) () = (dut .bar).card * amt .bar := by
  have h1 : ∑ d : Dev nD, (barMeets d c .bar 0 + barMeets d c .bar 1 + barMeets d c .bar 2) = 3 := by revert c; decide +kernel
  have h2 : ∑ d : Dev nD, (layMeets d c .bar 0 + layMeets d c .bar 1 + layMeets d c .bar 2) = 0 := by revert c; decide +kernel
  rw [owed_sum, h1, h2, Nat.zero_mul]; rfl
theorem owed_recv (c : Dev nD) (l s : Fin 3) (h : Fin 2) : ∑ d : Dev nD, O₀ d (cell c (.lay l (.recv s h))) () = N := by
  have h1 : ∑ d : Dev nD, (barMeets d c (.lay l (.recv s h)) 0 + barMeets d c (.lay l (.recv s h)) 1 + barMeets d c (.lay l (.recv s h)) 2) = 0 := by
    revert c l s h; decide +kernel
  have h2 : ∑ d : Dev nD, (layMeets d c (.lay l (.recv s h)) 0 + layMeets d c (.lay l (.recv s h)) 1 + layMeets d c (.lay l (.recv s h)) 2) = 1 := by
    revert c l s h; decide +kernel
  rw [owed_sum, h1, h2, Nat.one_mul, Nat.zero_add]

theorem launch_cell (c : Dev nD) (k : Key) (n : ℕ) (h : ∑ d : Dev nD, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

/-- What the launch credits on the cell of `k`. -/
def launched (c : Dev nD) (k : Key) : sProp 𝕄 := cred (tallyOn (cell c k) (launchCredit (Pipeline.owing O₀) 0 (cell c k)))

theorem lay_creds (c : Dev nD) (l : Fin 3) : (bigSep Finset.univ fun k : LK => (launched c (.lay l k) : sProp 𝕄)) ⊢ layCreds (F := F) c l := by
  rw [over_lks]
  unfold layCreds
  refine sep_elim_right.trans (sep_elim_right.trans (Entails.of_eq (bigSep_congr fun sh _ => ?_)))
  unfold launched
  rw [launch_cell c _ _ (owed_recv c l sh.1 sh.2)]

theorem all_creds (c : Dev nD) :
    (iprop((launched c .bar ∗ launched c .x) ∗ bigSep Finset.univ fun l : Fin 3 => bigSep Finset.univ fun k : LK => launched c (.lay l k)) : sProp 𝕄)
      ⊢ creds (F := F) c := by
  have hb : (launched c .bar : sProp 𝕄) ⊢ crd c .bar :=
    Entails.of_eq (congrArg (fun t => (cred t : sProp 𝕄)) (launch_cell c .bar _ (owed_bar c)))
  exact BIClass.sep_mono (sep_elim_left.trans hb) (bigSep_mono fun l _ => lay_creds c l)

theorem launchCred_keys (c : Dev nD) : (Pipeline.launchCred O₀ c : sProp 𝕄) ⊢ bigSep Finset.univ fun k : Key => launched c k := by
  have h : (bigSep (Finset.univ.map ⟨csem, csem_injective⟩) fun sm => (cred (tallyOn ((c : Thread nD τ), sm) (launchCredit (Pipeline.owing O₀) 0 ((c : Thread nD τ), sm))) : sProp 𝕄))
      = bigSep Finset.univ fun k : Key => launched c k := bigSep_map ..
  rw [← h]
  exact bigSep_subset (Finset.subset_univ _)

/-- The launch's credit holds the kernel's. -/
theorem creds_intro (c : Dev nD) : (Pipeline.launchCred O₀ c : sProp 𝕄) ⊢ creds (F := F) c :=
  ((launchCred_keys c).trans (Entails.of_eq (over_keys _))).trans (all_creds c)

end Cert.Mlp
-- ==== Proof.Launch.lean ====
/-
The launch: the cells and their tokens funded and dealt, the body's obligation, and the run of the whole mesh.
-/
module

public import proofs.«01_k».proof.Proof.Deal
public import Idealize.ShloMosaic.Lib.Pipeline.CollectiveSegs

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What goes in and what comes out -/

/-- What a device starts from. -/
def start (c : Dev nD) : sProp 𝕄 :=
  iprop((∃ K, known m K) ∗ (bigSep Finset.univ fun k : Key => at0 (F := F) c k) ∗ payToks (F := F) c ∗ creds (F := F) c ∗ args m c)
/-- Before the one point, and after it. -/
def Φ₀ (c : Dev nD) : sProp 𝕄 := iprop(start m c ∗ scratch (F := F) c ∗ someBuf (F := F) c cc0_scratch5)
def Φ₁ (c : Dev nD) : sProp 𝕄 :=
  iprop((bigSep Finset.univ fun k : Key => (semVal (cell c k) 0 : sProp 𝕄)) ∗ args m c ∗ scratch (F := F) c ∗ someBuf (F := F) c cc0_scratch5)

def dats (_ : Fin 1) (c : Dev nD) : Dat τ (Elt F) Unit ℕ UU ℕ cfg0 c where
  A w := m ((cfg0.win w).arr.view.loc (c : Thread nD τ))
  after w _ := match w with
    | ⟨0, _⟩ => act m 3 c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's obligation -/

theorem owns_pts (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The output's staging buffer at contents `X`. -/
abbrev staged (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def pointIn (c : Dev nD) : sProp 𝕄 :=
  iprop(Φ₀ m c ∗ (dats m 0 c).owesAt () t0_0.castSucc ∗ ∃ d, staged c ((dats m 0 c).before (0 : Fin 1) t0_0 d))
def pointOut (c : Dev nD) : sProp 𝕄 :=
  iprop(Φ₁ m c ∗ (dats m 0 c).owesAt () t0_0.succ ∗ staged c (act m 3 c))

theorem owes_in (c : Dev nD) : (dats m 0 c).owesAt () t0_0.castSucc ⊢ (Ow c (O₀ c) : sProp 𝕄) := by
  unfold Dat.owesAt Pipeline.owesWithin Ow
  rw [show (dats m 0 c).owed t0_0.castSucc = O₀ c from rfl]
  iintro ⟨%W, %hW, HO⟩
  iexists W; iexact HO
theorem owes_out (c : Dev nD) : (Ow c 0 : sProp 𝕄) ⊢ (dats m 0 c).owesAt () t0_0.succ := by
  unfold Dat.owesAt Pipeline.owesWithin Ow
  rw [show (dats m 0 c).owed t0_0.succ = 0 from rfl]
  iintro ⟨%W, HO⟩
  iexists W
  isplitr; · ipureintro; exact fun _ _ => Or.inl trivial
  iexact HO

theorem staged_in (c : Dev nD) (X : (cc0_stg0_0 : Ref sig .tc).ty.Contents (Elt F)) : (staged c X : sProp 𝕄) ⊢ some' (F := F) c oM := by
  iintro ⟨%f, -, Hf⟩
  have h : (((c : Thread nD τ).loc cc0_stg0_0) ↦{fullShare} f : sProp 𝕄) ⊢ some' (F := F) c oM :=
    (Entails.of_eq (pts_whole c cc0_stg0_0 fullShare f).symm).trans (some_intro c oM f)
  iapply h $$ Hf
theorem staged_out (c : Dev nD) (X : (cc0_stg0_0 : Ref sig .tc).ty.Contents (Elt F)) : (pts c oM fullShare X : sProp 𝕄) ⊢ staged c X := by
  iintro H
  have h : (pts c oM fullShare X : sProp 𝕄) ⊢ (((c : Thread nD τ).loc cc0_stg0_0) ↦{fullShare} X : sProp 𝕄) := Entails.of_eq (pts_whole c cc0_stg0_0 fullShare X)
  ihave H := h $$ H
  iexists X
  isplitr; · ipureintro; rfl
  iexact H

/-- The program once it has its device. -/
def whole (c : Dev nD) : KProg F PUnit := prologue (fun j => peer c (step j)) >>= layers c

/-- The program asks for its own device first. -/
theorem wp_own (c : Dev nD) {α : Type} (p : Dev nD → KProg F α) (Q : α → sProp 𝕄) : WP c (Prog.lift .deviceId >>= p) Q = WP c (p c) Q :=
  wp_deviceId ..

/-- The body at the one point. -/
theorem wp_point (c : Dev nD) :
    pointIn m c ⊢ WP c (Prog.lift .deviceId >>= whole) (fun _ => pointOut m c) := by
  unfold pointIn Φ₀ start
  iintro ⟨⟨⟨⟨%K, #HK⟩, Hat, Htok, Hcr, Ha⟩, Hs, H5⟩, HO, ⟨%d, Ho⟩⟩
  ihave HO := (owes_in m c) $$ HO
  ihave Ho := (staged_in c _) $$ Ho
  iapply (Entails.of_eq (wp_own c whole _).symm)
  have hb : iprop(known m K ∗ bodyIn m c) ⊢ iprop((bodyOut m c -∗ pointOut m c) -∗ WP c (whole c) fun _ => pointOut m c) :=
    wp_body m K c (Q := fun _ => pointOut m c)
  iapply hb $$ [Hat Htok Hcr Ha Hs HO Ho]
  · isplitr; · iexact HK
    unfold bodyIn
    isplitl [Hat]; · iexact Hat
    isplitl [Htok]; · iexact Htok
    isplitl [Hcr]; · iexact Hcr
    isplitl [Ha]; · iexact Ha
    isplitl [Hs]; · iexact Hs
    isplitl [HO]; · iexact HO
    iexact Ho
  unfold bodyOut pointOut Φ₁
  iintro ⟨Hz, Ha, Hs, HO, Ho⟩
  ihave HO := (owes_out m c) $$ HO
  ihave Ho := (staged_out c _) $$ Ho
  isplitl [Hz Ha Hs H5]
  · isplitl [Hz]; · iexact Hz
    isplitl [Ha]; · iexact Ha
    isplitl [Hs]; · iexact Hs
    iexact H5
  isplitl [HO]; · iexact HO
  iexact Ho

theorem over_windows (Φ : Fin cfg0.W → sProp 𝕄) : bigSep Finset.univ Φ = Φ (0 : Fin 1) := bigSep_W0 Φ

theorem body_point (c : Dev nD) :
    pointIn m c ⊢ WP c (cc0_body xArg (Memref.isWhole_whole _) (Memref.whole main_arg1) (Memref.isWhole_whole _) (Memref.whole main_arg2) (Memref.isWhole_whole _)
      (Memref.whole main_arg3) (Memref.isWhole_whole _) (Memref.whole main_arg4) (Memref.isWhole_whole _) (Memref.whole main_arg5) (Memref.isWhole_whole _)
      (Memref.whole main_arg6) (Memref.isWhole_whole _) oM (Memref.isWhole_whole _) commM (Memref.isWhole_whole _) sbM (Memref.isWhole_whole _)
      xM (Memref.isWhole_whole _) winM (Memref.isWhole_whole _) woutM (Memref.isWhole_whole _) (Memref.whole cc0_scratch5) (Memref.isWhole_whole _)
      cc0_scratch6 cc0_scratch7 cc0_scratch8 : KProg F PUnit) (fun _ => pointOut m c) := by
  have h : _ = (Prog.lift .deviceId >>= whole : KProg F PUnit) := body_eq
  rw [h]
  exact wp_point m c

set_option maxRecDepth 20000 in
/-- The obligation of the body on each device. -/
theorem body_obligation (c : Dev nD) : BodyObligation (dats (F := F) m 0 c) (defs₀ (F := F)) 𝒱₀ () Set.univ := fun t => by
  rw [fin_N0 t]
  rw [over_windows, over_windows]
  simp only [owns_pts]
  show pointIn m c ⊢ _
  refine (body_point m c).trans ?_
  exact Entails.of_eq rfl

/-! ## The kernel's own semaphores -/

/-- The cells besides the barrier's. -/
abbrev Own : Type := Unit ⊕ (Fin 3 × LK)
def osem : Own → SemLoc sig
  | .inl _ => csem .x
  | .inr lk => csem (.lay lk.1 lk.2)

theorem ownSemFacts : Pipeline.OwnSemFacts cfg0.spec osem := by decide +kernel

theorem unscoped_bar (c : Dev nD) : (unscopedSems0 c : sProp 𝕄) = semVal (cell c .bar) 0 := by
  unfold unscopedSems0; rw [bigSep_eq_bigSepL_of_eq [SemLoc.reg barS] (by decide) (by decide)]; rfl

/-- The cells of the protocol are the kernel's own semaphores and the barrier's. -/
theorem sems_keys (c : Dev nD) :
    (bigSep Finset.univ fun k : Key => (semVal (cell c k) 0 : sProp 𝕄))
      = iprop((semVal (cell c .bar) 0 ∗ semVal (cell c .x) 0) ∗ bigSep Finset.univ fun lk : Fin 3 × LK => semVal (cell c (.lay lk.1 lk.2)) 0) := by
  rw [over_keys, bigSep_univ_prod]
theorem own_keys (c : Dev nD) : (Pipeline.ownSems0 (Ix := Unit) (Name := ℕ) (U := UU) (Lvl := ℕ) (Val := Elt F) (τ := τ) osem c : sProp 𝕄)
    = iprop(semVal (cell c .x) 0 ∗ bigSep Finset.univ fun lk : Fin 3 × LK => semVal (cell c (.lay lk.1 lk.2)) 0) := by
  unfold Pipeline.ownSems0
  rw [bigSep_univ_sum, over_unit]
  rfl
theorem sems_in (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (cell c k) 0 : sProp 𝕄) := by
  rw [own_keys, unscoped_bar, sems_keys]
  iintro ⟨⟨Hx, Hl⟩, Hb⟩
  isplitl [Hb Hx]
  · isplitl [Hb] <;> iassumption
  iexact Hl
theorem sems_out (c : Dev nD) :
    (bigSep Finset.univ fun k : Key => semVal (cell c k) 0 : sProp 𝕄)
      ⊢ iprop(Pipeline.ownSems0 (Ix := Unit) (Name := ℕ) (U := UU) (Lvl := ℕ) (Val := Elt F) (τ := τ) osem c ∗ unscopedSems0 c) := by
  rw [own_keys, unscoped_bar, sems_keys]
  iintro ⟨⟨Hb, Hx⟩, Hl⟩
  isplitr [Hb]
  · isplitl [Hx] <;> iassumption
  iexact Hb

/-! ## The protocol's ghost state -/

theorem cells_injective : Function.Injective fun ck : Dev nD × Key => cell ck.1 ck.2 := fun a b h =>
  Prod.ext (cell_eq_iff.mp h).1 (cell_eq_iff.mp h).2
def ringCells : Finset (GSem nD τ sig) := Finset.univ.map ⟨fun ck : Dev nD × Key => cell ck.1 ck.2, cells_injective⟩

/-- The duties of a device's cells: three of the barrier's, one of every other's. -/
abbrev Duty : Type := Fin 3 ⊕ Own
def dutyKey : Duty → Key × Fin 3
  | .inl j => (.bar, j)
  | .inr (.inl _) => (.x, 0)
  | .inr (.inr lk) => (.lay lk.1 lk.2, 0)
theorem dutyKey_injective : Function.Injective dutyKey := by
  rintro (j | u | ⟨l, k⟩) (j' | u' | ⟨l', k'⟩) h <;> simp only [dutyKey, Prod.mk.injEq, reduceCtorEq, false_and, and_true, true_and, Key.lay.injEq] at h
  · rw [h]
  · rfl
  · obtain ⟨rfl, rfl⟩ := h; rfl
def tokOf (cd : Dev nD × Duty) : GSem nD τ sig × ℕ × Fin 3 := (cell cd.1 (dutyKey cd.2).1, 0, (dutyKey cd.2).2)
theorem tokOf_injective : Function.Injective tokOf := by
  rintro ⟨c, d⟩ ⟨c', d'⟩ h
  have h1 := cell_eq_iff.mp (congrArg Prod.fst h)
  have h2 : (dutyKey d).2 = (dutyKey d').2 := congrArg (fun x : GSem nD τ sig × ℕ × Fin 3 => x.2.2) h
  exact Prod.ext h1.1 (dutyKey_injective (Prod.ext h1.2 h2))
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- What the launch element deals a device. -/
def G (c : Dev nD) : sProp 𝕄 :=
  iprop((bigSep Finset.univ fun k : Key => roundState ER (Rd m) (cell c k) 0)
    ∗ (bigSep Finset.univ fun k : Key => at0 (F := F) c k) ∗ (bigSep Finset.univ fun k : Key => (reached ER (cell c k) 0 : sProp 𝕄)) ∗ ownToks (F := F) c)

theorem over_cells (Φ : GSem nD τ sig → sProp 𝕄) :
    bigSep ringCells Φ = bigSep Finset.univ fun c : Dev nD => bigSep Finset.univ fun k : Key => Φ (cell c k) := by
  unfold ringCells; rw [bigSep_map, bigSep_univ_prod]; rfl
theorem over_toks : bigSep ringToks (fun x => (dutyTok ER x.1 x.2.1 x.2.2 : sProp 𝕄)) = bigSep Finset.univ fun c : Dev nD => ownToks (F := F) c := by
  unfold ringToks; rw [bigSep_map, bigSep_univ_prod]
  refine bigSep_congr fun c _ => ?_
  unfold ownToks
  rw [bigSep_univ_sum, bigSep_univ_sum, over_unit, bigSep_univ_prod]
  rfl

theorem fund : BI.own (ER (initOf ringCells ringToks)) ⊢ (|==> bigSep Finset.univ (G m) : sProp 𝕄) := by
  iintro HX
  imod (Rounds.fund ER (Rd m) ringCells ringToks) $$ HX with ⟨Hst, Hr, Hat, Htok⟩
  imodintro
  ihave Hst := (Entails.of_eq (over_cells fun g => roundState ER (Rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G; simp only [bigSep_sep']
  isplitl [Hst]; · iexact Hst
  isplitl [Hat]; · iexact Hat
  isplitl [Hr]; · iexact Hr
  iexact Htok

/-- The cells of a device with their invariants allocated. -/
def allocated (c : Dev nD) : sProp 𝕄 :=
  iprop((bigSep Finset.univ fun k : Key => iprop(∃ κ : ℕ, cellInv ER (Rd m) κ (cell c k)))
    ∗ (bigSep Finset.univ fun k : Key => at0 (F := F) c k) ∗ (bigSep Finset.univ fun k : Key => (reached ER (cell c k) 0 : sProp 𝕄)) ∗ ownToks (F := F) c)

theorem alloc_cells (c : Dev nD) :
    iprop((bigSep Finset.univ fun k : Key => semVal (cell c k) 0) ∗ bigSep Finset.univ fun k : Key => roundState ER (Rd m) (cell c k) 0)
      ⊢ (|={Set.univ}=> bigSep Finset.univ fun k => iprop(∃ κ : ℕ, cellInv ER (Rd m) κ (cell c k)) : sProp 𝕄) := by
  rw [← bigSep_sep']
  exact (bigSep_mono fun k _ => (Rounds.body_intro ER (Rd m) (cell c k)).trans inv_alloc).trans (bigSep_fupd _ _)

theorem alloc_device (c : Dev nD) :
    iprop(Pipeline.ownSems0 (Ix := Unit) (Name := ℕ) (U := UU) (Lvl := ℕ) (Val := Elt F) (τ := τ) osem c ∗ unscopedSems0 c ∗ G m c)
      ⊢ |={Set.univ}=> allocated m c := by
  unfold G allocated
  iintro ⟨Hos, Hus, Hst, Hrest⟩
  ihave Hv := (sems_in (F := F) c) $$ [Hos Hus]
  · isplitl [Hos] <;> iassumption
  imod (alloc_cells m c) $$ [Hv Hst] with Hinv
  · isplitl [Hv] <;> iassumption
  imodintro
  isplitl [Hinv]; · iexact Hinv
  iexact Hrest

/-- What every device comes to know, but for the levels. -/
def records (K : Dev nD × Key → ℕ) : sProp 𝕄 :=
  iprop((bigSep Finset.univ fun ck : Dev nD × Key => cellInv ER (Rd m) (K ck) (cell ck.1 ck.2))
    ∗ bigSep Finset.univ fun ck : Dev nD × Key => reached ER (cell ck.1 ck.2) 0)
instance records_persistent (K : Dev nD × Key → ℕ) : BI.Persistent (records m K) := by unfold records; infer_instance

/-- What the global step makes for a device. -/
def G' (c : Dev nD) : sProp 𝕄 :=
  iprop((∃ K, records m K) ∗ (bigSep Finset.univ fun k : Key => at0 (F := F) c k) ∗ payToks (F := F) c)

theorem to_device (K : Dev nD × Key → ℕ) (c : Dev nD) :
    iprop(records m K ∗ (bigSep Finset.univ fun k : Key => at0 (F := F) c k) ∗ payToks (F := F) c) ⊢ G' m c := by
  unfold G'
  iintro ⟨HR, H⟩
  isplitl [HR]; · iexists K; iexact HR
  iexact H

theorem to_devices (K : Dev nD × Key → ℕ) :
    iprop(records m K ∗ (bigSep Finset.univ fun c : Dev nD => bigSep Finset.univ fun k : Key => at0 (F := F) c k) ∗ bigSep Finset.univ fun c : Dev nD => payToks (F := F) c)
      ⊢ bigSep Finset.univ (G' m) := by
  rw [← bigSep_sep']
  refine (sep_mono_left (BI.bigSep_of_persistent (Finset.univ : Finset (Dev nD)) (records m K))).trans ?_
  rw [← bigSep_sep']
  exact bigSep_mono fun c _ => to_device m K c

theorem regroup : (bigSep Finset.univ fun c : Dev nD => allocated m c) ⊢ bigSep Finset.univ (G' m) := by
  unfold allocated
  rw [bigSep_sep', bigSep_sep', bigSep_sep', toks_around, ← bigSep_univ_prod (fun ck : Dev nD × Key => iprop(∃ κ : ℕ, cellInv ER (Rd m) κ (cell ck.1 ck.2))),
    ← bigSep_univ_prod (fun ck : Dev nD × Key => (reached ER (cell ck.1 ck.2) 0 : sProp 𝕄))]
  iintro ⟨HI, Hat, HR, Htok⟩
  ihave HK := (BI.bigSep_exists_pi Finset.univ (fun (ck : Dev nD × Key) (κ : ℕ) => (cellInv ER (Rd m) κ (cell ck.1 ck.2) : sProp 𝕄))) $$ HI
  icases HK with ⟨%K, HI⟩
  iapply (to_devices m K)
  isplitl [HI HR]
  · unfold records; isplitl [HI]; · iexact HI
    iexact HR
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_device m c).trans (bigSep_fupd _ _)).trans (BI.fupd_mono (regroup m))

/-! ## Argument arrays -/

theorem args_rest (c : Dev nD) : (args m c : sProp 𝕄) ⊣⊢ Pipeline.unscopedRest cfg0.spec c (fun b => m ((c : Thread nD τ).loc b)) := by
  have hx : (pts c xArg fullShare (ini m c xArg) : sProp 𝕄) = iprop(((c : Thread nD τ).loc main_arg0) ↦{fullShare} m ((c : Thread nD τ).loc main_arg0)) := pts_whole c main_arg0 _ _
  have h0 : (pts c (winArg 0) fullShare (ini m c (winArg 0)) : sProp 𝕄) = iprop(((c : Thread nD τ).loc main_arg1) ↦{fullShare} m ((c : Thread nD τ).loc main_arg1)) := pts_whole c main_arg1 _ _
  have h0' : (pts c (woutArg 0) fullShare (ini m c (woutArg 0)) : sProp 𝕄) = iprop(((c : Thread nD τ).loc main_arg2) ↦{fullShare} m ((c : Thread nD τ).loc main_arg2)) := pts_whole c main_arg2 _ _
  have h1 : (pts c (winArg 1) fullShare (ini m c (winArg 1)) : sProp 𝕄) = iprop(((c : Thread nD τ).loc main_arg3) ↦{fullShare} m ((c : Thread nD τ).loc main_arg3)) := pts_whole c main_arg3 _ _
  have h1' : (pts c (woutArg 1) fullShare (ini m c (woutArg 1)) : sProp 𝕄) = iprop(((c : Thread nD τ).loc main_arg4) ↦{fullShare} m ((c : Thread nD τ).loc main_arg4)) := pts_whole c main_arg4 _ _
  have h2 : (pts c (winArg 2) fullShare (ini m c (winArg 2)) : sProp 𝕄) = iprop(((c : Thread nD τ).loc main_arg5) ↦{fullShare} m ((c : Thread nD τ).loc main_arg5)) := pts_whole c main_arg5 _ _
  have h2' : (pts c (woutArg 2) fullShare (ini m c (woutArg 2)) : sProp 𝕄) = iprop(((c : Thread nD τ).loc main_arg6) ↦{fullShare} m ((c : Thread nD τ).loc main_arg6)) := pts_whole c main_arg6 _ _
  rw [unscopedRest0_eq]
  unfold args
  rw [over_three, hx, h0, h0', h1, h1', h2, h2']
  constructor
  · iintro ⟨Hx, ⟨H0, H0'⟩, ⟨H1, H1'⟩, H2, H2'⟩
    isplitl [Hx]; · iexact Hx
    isplitl [H0]; · iexact H0
    isplitl [H0']; · iexact H0'
    isplitl [H1]; · iexact H1
    isplitl [H1']; · iexact H1'
    isplitl [H2]; · iexact H2
    iexact H2'
  · iintro ⟨Hx, H0, H0', H1, H1', H2, H2'⟩
    isplitl [Hx]; · iexact Hx
    isplitl [H0 H0']
    · isplitl [H0]; · iexact H0
      iexact H0'
    isplitl [H1 H1']
    · isplitl [H1]; · iexact H1
      iexact H1'
    isplitl [H2]; · iexact H2
    iexact H2'

/-! ## The side conditions of the run -/

theorem share_full (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  unfold G' start
  iintro ⟨Ha, Hlev, Hcr, -, ⟨%K, HR⟩, Hat, Htok⟩
  ihave Hc := (creds_intro (F := F) c) $$ Hcr
  ihave Ha := (args_rest m c).2 $$ Ha
  imodintro
  isplitl
  · isplitl [HR Hlev]
    · iexists K
      unfold records known
      icases HR with ⟨H1, H2⟩
      isplitl [H1]; · iexact H1
      isplitl [H2]; · iexact H2
      iexact Hlev
    isplitl [Hat]; · iexact Hat
    isplitl [Htok]; · iexact Htok
    isplitl [Hc]; · iexact Hc
    iexact Ha
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, H0, H1, H2, H3, H4, H5⟩
  isplitl [Hs]; · iexact Hs
  isplitr [H5]
  · isplitl [H0]; · iexact H0
    isplitl [H1]; · iexact H1
    isplitl [H2]; · iexact H2
    isplitl [H3]; · iexact H3
    iexact H4
  iexact H5

theorem leave (c : Dev nD) :
    (dats m 0 c).Φ (Fin.last cfg0.N)
      ⊢ iprop((unscopedSems0 c ∗ Pipeline.unscopedRest cfg0.spec c (fun b => m ((c : Thread nD τ).loc b))) ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hz, Ha, ⟨H0, H1, H2, H3, H4⟩, H5⟩
  ihave Hz := (sems_out (F := F) c) $$ Hz
  icases Hz with ⟨Ho, Hu⟩
  ihave Ha := (args_rest m c).1 $$ Ha
  isplitl [Hu Ha]
  · isplitl [Hu]; · iexact Hu
    iexact Ha
  isplitl [Ho]; · iexact Ho
  isplitl [H0]; · iexact H0
  isplitl [H1]; · iexact H1
  isplitl [H2]; · iexact H2
  isplitl [H3]; · iexact H3
  isplitl [H4]; · iexact H4
  iexact H5

theorem stage_level (c : Dev nD) (q : DmaSem sig) (h : ∀ k : Key, csem k ≠ .dma q) : lv ((c : Thread nD τ), .dma q) () ≤ 0 := by
  unfold lv
  cases hk : key? ((c : Thread nD τ), .dma q) with
  | none => exact le_rfl
  | some k => exact absurd ((Function.partialInv_of_injective csem_injective _ _).mp hk) (h k)

theorem waits (c : Dev nD) : (levAts L lv : sProp 𝕄) ⊢ Pipeline.cellsWaits cfgs (dats m) () 0 c :=
  Pipeline.cellsWaits_intro cfgs (dats m) () 0 c fun w s t =>
    mayWait c _ 0 (stage_level c _ (by fin_cases w; fin_cases s; decide)) (by
      rcases t with ⟨_ | _, ht⟩
      · exact above_O₀ c
      · exact above_zero _)

/-! ## The run -/

/-- What a device's memory holds after the run, beside its result. -/
def kept (c : Dev nD) (s : MemSt nD τ sig (Elt F)) : Prop :=
  (∀ b ∈ Pipeline.restRefs sig cfg0.spec, s.mem ((c : Thread nD τ).loc b) = m ((c : Thread nD τ).loc b))
    ∧ ∀ sm : SemLoc sig, sm.isScoped .tc = false → s.sem ((c : Thread nD τ), sm) = 0

theorem keep (c : Dev nD) (s' : Phys nD τ sig (Elt F)) :
    iprop((unscopedSems0 c ∗ Pipeline.unscopedRest cfg0.spec c (fun b => m ((c : Thread nD τ).loc b))) ∗ emp ∗ SI s')
      ⊢ |={Set.univ}=> (iprop(⌜kept m c s'.mem⌝ ∗ SI s') : sProp 𝕄) := by
  unfold Pipeline.unscopedRest
  iintro ⟨⟨Hu, Ha⟩, -, HSI⟩
  ihave H := (pointsTo_read_all _ (fun b : Ref sig .tc => (c : Thread nD τ).loc b) (fun b => m ((c : Thread nD τ).loc b)) s' fullShare) $$ [Ha HSI]
  · isplitl [Ha] <;> iassumption
  icases H with ⟨%ha, HSI⟩
  imod (Pipeline.unscopedSems0_read (X := unscopedSems0 c) (c := c) fupd_intro s') $$ [Hu HSI] with ⟨%hs, HSI⟩
  · isplitl [Hu] <;> iassumption
  imodintro
  isplitr; · ipureintro; exact ⟨ha, hs⟩
  iexact HSI

set_option maxRecDepth 8000 in
/-- At the mesh of four devices, for any float values, from any memory with zero counters: every weakly fair execution
    of the kernel on all devices terminates; every final state has each device's result array at what the write-back
    left, its argument arrays as they were, and every semaphore counter at zero. -/
theorem run_arr : θ_run defs (onTc (τ := τ) (main (F := F))) (s₀ m ρ) (fun r =>
    (∀ c : Dev nD, r.2.mem (win0_0.arr.view.loc (c : Thread nD τ)) = (dats m 0 c).arrAt (0 : Fin 1) cfg0.N
      ∧ ∀ b ∈ Pipeline.restRefs sig cfg0.spec, r.2.mem ((c : Thread nD τ).loc b) = m ((c : Thread nD τ).loc b)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ Pipeline.unscopedRest cfg0.spec c (fun b => m ((c : Thread nD τ).loc b)))) (Z := fun _ => iprop(emp))
    (hX := start_intro m ρ) (hin := enter m) (hout := leave m)
    (QY := kept m)
    (hY := keep m)
    (hQ := fun _ h hs => ⟨fun c => ⟨(h c).1 0, (h c).2.2.1⟩, sem_eq_zero hs fun c => (h c).2.2.2⟩)

/-- The write-back leaves what the kernel stored. -/
theorem arr_end (c : Dev nD) : (dats m 0 c).arrAt (0 : Fin 1) cfg0.N = act m 3 c := by
  have hr (f : Buf (Elt F) (win0_0.arr.view.loc (c : Thread nD τ))) : ((cfg0.win (0 : Fin 1)).blk t0_0).view.read (Elt F) f = f :=
    Memref.read_access_unit_zero (Elt F) main_v1 (funext fun a => by fin_cases a <;> rfl) _ f
  have hw : ((cfg0.win (0 : Fin 1)).blk t0_0).view.read (Elt F) ((dats m 0 c).arrAt (0 : Fin 1) cfg0.N) = (dats m 0 c).flushed (0 : Fin 1) t0_0 := by
    rw [show cfg0.N = t0_0.val + 1 from rfl, (dats m 0 c).arrAt_succ (0 : Fin 1) t0_0, flush0_0, if_pos rfl]
    exact View.read_write_univ _ _
  exact ((hr _).symm.trans hw).trans rfl

/-- The run: each device's result array holds the third layer's activation, its arguments are unchanged and every counter is at zero. -/
theorem run_main : θ_run defs (onTc (τ := τ) (main (F := F))) (s₀ m ρ) (fun r =>
    (∀ c : Dev nD, r.2.mem ((c : Thread nD τ).loc main_v1) = act m 3 c
      ∧ ∀ b ∈ Pipeline.restRefs sig cfg0.spec, r.2.mem ((c : Thread nD τ).loc b) = m ((c : Thread nD τ).loc b)) ∧ r.2.sem = fun _ => 0) :=
  (θ_run _ _ _).mono (fun r h => ⟨fun c => ⟨(h.1 c).1.trans (arr_end m c), (h.1 c).2⟩, h.2⟩) (run_arr m ρ)

end Cert.Mlp
-- ==== Proof.Frames.lean ====
/-
The frames: the printed kernel and its idealization have the same text, so one run, at any float values, gives both.
-/
module

public import proofs.«01_k».proof.Defs
public import proofs.«01_k».proof.Proof.Launch
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.ReferenceIdeal
public import proofs.«01_k».proof.Proof.Gen.ReferenceIdeal.Run

@[expose] public section

noncomputable section

namespace Cert.Mlp

open Cert.KernelIdeal Cert.KernelIdeal.Gen

open Idealize.ShloMosaic
open Idealize.ShloMosaic.TcCoe
open Idealize.SL.Sem

variable {F : FTy → Type} [FloatOps F]

/-- The arguments of the kernel, as they were. -/
def ArgsKept (m : (ℓ : Loc nD τ sig) → Buf (Elt F) ℓ) (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

theorem args_kept {m : (ℓ : Loc nD τ sig) → Buf (Elt F) ℓ} {s : MemSt nD τ sig (Elt F)} {c : Dev nD}
    (h : ∀ b ∈ Pipeline.restRefs sig cfg0.spec, s.mem ((c : Thread nD τ).loc b) = m ((c : Thread nD τ).loc b)) : ArgsKept m s c :=
  ⟨h main_arg0 (Pipeline.mem_restRefs_of _ (by decide) (by decide)), h main_arg1 (Pipeline.mem_restRefs_of _ (by decide) (by decide)),
    h main_arg2 (Pipeline.mem_restRefs_of _ (by decide) (by decide)), h main_arg3 (Pipeline.mem_restRefs_of _ (by decide) (by decide)),
    h main_arg4 (Pipeline.mem_restRefs_of _ (by decide) (by decide)), h main_arg5 (Pipeline.mem_restRefs_of _ (by decide) (by decide)),
    h main_arg6 (Pipeline.mem_restRefs_of _ (by decide) (by decide))⟩

/-- The kernel, at any float values, runs, keeps its arguments and leaves every counter at zero. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD, ArgsKept m r.2 c) ∧ r.2.sem = fun _ => 0) :=
  (θ_run defs _ _).mono (fun _ h => ⟨fun c => args_kept (h.1 c).2, h.2⟩) (run_main m ρ)

/-- The idealized kernel's frame. -/
theorem frame_ideal : Cert.quiescent_KernelIdeal := fun m ρ _ => frame_any m ρ

/-- The two programs' body tables are one: the printed kernel's body has the text of the idealized one's. -/
theorem tables_eq : Cert.Kernel.defs₀ (F := F) = defs₀ (F := F) := by
  refine congrArg Defs.onTc ?_
  funext l a
  match l, a with
  | 0, (t, s) => exact rfl

/-- So are the tables that their launches run. -/
theorem defs_eq : Cert.Kernel.defs (F := F) = defs (F := F) :=
  congrArg (Pipeline.defs (pcfgs (F := F))) tables_eq

/-- The printed kernel's: the same text at machine words. -/
theorem frame_kernel : Cert.quiescent_Kernel := fun m ρ _ => by
  have h := frame_any (F := Bits) m ρ
  rw [← defs_eq] at h
  exact h

/-- The reference runs and keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Mlp
-- ==== Proof.Loads.lean ====
/-
What the body's loads read: the weights' blocks as the arguments hold them, and, from a peer, half of the columns of that
peer's partial product.
-/
module

public import proofs.«01_k».proof.Proof.Schedule
public import Idealize.ShloMosaic.Lib.Pointwise
public import Idealize.ShloMosaic.Lib.ValueLayout

@[expose] public section

noncomputable section

namespace Cert.Mlp

open Cert.KernelIdeal Cert.KernelIdeal.Gen

open Idealize.ShloMosaic
open Idealize.ShloMosaic.TcCoe

variable {F : FTy → Type} [FloatOps F]
variable (m : (ℓ : Loc nD τ sig) → Buf (Elt F) ℓ)

/-- Device `c`'s rows of layer `l`'s first weights, and its columns of the second. -/
def win (l : Fin 3) (c : Dev nD) : FVec F S512x1024 .f32 := (winArg l).view.read (Elt F) (ini m c (winArg l))
def wout (l : Fin 3) (c : Dev nD) : FVec F S1024x512 .f32 := (woutArg l).view.read (Elt F) (ini m c (woutArg l))

/-- Device `c`'s partial product of layer `l`: its columns of the activation with its rows of the weights. -/
def part (X : Dev nD → FVec F S64x512 .f32) (l : Fin 3) (c : Dev nD) : FVec F S64x1024 .f32 := k0_pay1 (X c) (winLd m l c)

/-- Column `j` of half `h`. -/
def col (h : Fin 2) (j : Fin 512) : Fin 1024 := ⟨512 * h.val + j.val, by omega⟩

/-- A matrix's index, matched with a stack of one matrix, and with a stack of a stack of one. -/
theorem reshape_one {a b : ℕ} (h : (⟨2, ![a, b]⟩ : Shape).numel = (⟨3, ![1, a, b]⟩ : Shape).numel) (x : Fin a) (y : Fin b) :
    Shape.reshapeEquiv h (ix2 x y) = ix3 (0 : Fin 1) x y := ValueIdx.reshapeEquiv_ix2_1ab h x y
theorem reshape_one_one {a b : ℕ} (h : (⟨2, ![a, b]⟩ : Shape).numel = (⟨4, ![1, 1, a, b]⟩ : Shape).numel) (x : Fin a) (y : Fin b) :
    Shape.reshapeEquiv h (ix2 x y) = ix4 (0 : Fin 1) (0 : Fin 1) x y := ValueIdx.reshapeEquiv_ix2_11ab h x y

/-- A load of a plane of the first weights reads the argument's block. -/
theorem winLd_read (l : Fin 3) (c : Dev nD) :
    shapeCast S512x1024 (winLd m l c) shapeCasts_S1x512x1024_S512x1024 = win m l c := by
  show (winV l).view.read (Elt F) (winBuf m l c) = _
  exact View.read_write_univ _ _

/-- Row `i` of half `h` of a plane of the second weights is row `col h i` of the plane. -/
theorem woutHR_read (l : Fin 3) (h : Fin 2) (f : woutM.view.ty.Contents (Elt F)) (i j : Fin 512) :
    woutM.view.readAt (Elt F) (woutHR l h).toLoadRect f (ix3 (0 : Fin 1) i j) = (woutV l).view.read (Elt F) f (ix2 (col h i) j) := by
  show f ((woutHR l h).emb (ix3 (0 : Fin 1) i j)) = f ((woutR l).emb (Shape.reshapeEquiv _ (ix2 (col h i) j)))
  rw [reshape_one]
  congr 1
  funext a
  apply Fin.ext
  match a with
  | ⟨0, _⟩ => rfl
  | ⟨1, _⟩ => show 512 * h.val + 1 * i.val = 0 + 1 * (512 * h.val + i.val); omega
  | ⟨2, _⟩ => rfl

/-- Column `j` of the half `h` that is sent is column `col h j` of the plane. -/
theorem sbV_read (l : Fin 3) (h : Fin 2) (f : sbM.view.ty.Contents (Elt F)) (i : Fin 64) (j : Fin 512) :
    (sbV l h).view.read (Elt F) f (ix2 i j) = (sbM.access (sbLR l)).read (Elt F) f (ix3 (0 : Fin 1) i (col h j)) := by
  show f ((sbR l h).emb (Shape.reshapeEquiv _ (ix2 i j))) = f ((sbLR l).emb (ix3 (0 : Fin 1) i (col h j)))
  rw [reshape_one]
  congr 1
  funext a
  apply Fin.ext
  match a with
  | ⟨0, _⟩ => rfl
  | ⟨1, _⟩ => rfl
  | ⟨2, _⟩ => show 512 * h.val + 1 * j.val = 0 + 1 * (512 * h.val + j.val); omega

/-- A load of half of the rows of the second weights reads the argument's block there. -/
theorem woutLd_read (l : Fin 3) (h : Fin 2) (c : Dev nD) (i j : Fin 512) :
    woutLd m l h c (ix3 (0 : Fin 1) i j) = wout m l c (ix2 (col h i) j) := by
  have e : (woutV l).view.read (Elt F) (woutBuf m l c) = wout m l c := View.read_write_univ _ _
  exact (woutHR_read l h (woutBuf m l c) i j).trans (congrFun e _)

/-- What lands from a peer: half `h` of its partial product's columns. -/
theorem commLd_read (X : Dev nD → FVec F S64x512 .f32) (l s : Fin 3) (h : Fin 2) (c : Dev nD) (i : Fin 64) (j : Fin 512) :
    commLdOf m X l s h c (ix4 (0 : Fin 1) (0 : Fin 1) i j)
      = truncf .bf16 (part m X l (peer c (step s))) bitsLt_bf16_f32 (ix2 i (col h j)) := by
  have e : (commV l s h).view.read (Elt F) (commBufOf m X l s h c) = (sbV l h).view.read (Elt F) (sbBufOf m X l (peer c (step s))) :=
    View.read_write_univ _ _
  have e' : (sbM.access (sbLR l)).read (Elt F) (sbBufOf m X l (peer c (step s))) = k0_pay2 (X (peer c (step s))) (winLd m l (peer c (step s))) :=
    View.read_write_univ _ _
  have r : (commV l s h).view.read (Elt F) (commBufOf m X l s h c) (ix2 i j) = commLdOf m X l s h c (ix4 (0 : Fin 1) (0 : Fin 1) i j) :=
    congrArg (commLdOf m X l s h c) (reshape_one_one _ i j)
  rw [← r, e, sbV_read, e']
  exact ValueIdx.shapeCast_ab_1ab_apply (truncf .bf16 (part m X l (peer c (step s))) bitsLt_bf16_f32) shapeCasts_S64x1024_S1x64x1024 (0 : Fin 1) i (col h j)

end Cert.Mlp
-- ==== Proof.OneLayer.lean ====
/-
What one layer of the kernel computes over the extended reals: the devices' partial products, summed whatever the order
they arrive in, through the rectifier, times the device's columns of the second weights.
-/
module

public import proofs.«01_k».proof.Proof.Loads

@[expose] public section

noncomputable section

namespace Cert.Mlp

open Cert.KernelIdeal Cert.KernelIdeal.Gen

open Idealize.ShloMosaic
open Idealize.ShloMosaic.TcCoe

variable (m : (ℓ : Loc nD τ sig) → Buf (Elt Ideal) ℓ)

/-- A partial product: 512 columns of the activation with 512 rows of the first weights. -/
theorem part_apply (X : Dev nD → FVec Ideal S64x512 .f32) (l : Fin 3) (c : Dev nD) (i : Fin 64) (k : Fin 1024) :
    part m X l c (ix2 i k) = ∑ q : Fin 512, X c (ix2 i q) * win m l c (ix2 q k) := by
  unfold part k0_pay1
  rw [winLd_read m l c]
  pointwise

/-- What a layer leaves, from its own partial product, the received halves and the halves of its second weights. -/
theorem layerVal_apply (p : FVec Ideal S64x1024 .f32) (a b : Fin 3 → Vec Ideal S1x1x64x512 .bf16) (w₀ w₁ : Vec Ideal S1x512x512 .f32)
    (i : Fin 64) (j : Fin 512) : layerVal p a b w₀ w₁ (ix2 i j)
      = (∑ x : Fin 512, max (p (ix2 i (col 0 x)) + a 2 (ix4 0 0 i x) + a 0 (ix4 0 0 i x) + a 1 (ix4 0 0 i x)) 0 * w₀ (ix3 0 x j))
        + ∑ x : Fin 512, max (p (ix2 i (col 1 x)) + b 2 (ix4 0 0 i x) + b 0 (ix4 0 0 i x) + b 1 (ix4 0 0 i x)) 0 * w₁ (ix3 0 x j) := by
  have h0 (x : Fin 512) : col 0 x = ⟨x.val, by omega⟩ := Fin.ext (Nat.zero_add _)
  have h1 (x : Fin 512) : col 1 x = ⟨512 + x.val, by omega⟩ := rfl
  simp only [h0, h1]
  pointwise [layerVal, k0_pay9, k0_pay8, k0_pay7, k0_pay6, k0_pay5, k0_pay4, k0_pay3]

/-- A sum over the 1024 columns is the sum over the first half and over the second. -/
theorem sum_halves (f : Fin 1024 → EReal) : ∑ k, f k = (∑ x : Fin 512, f (col 0 x)) + ∑ x : Fin 512, f (col 1 x) := by
  rw [Fin.sum_univ_two_halves 512 512 rfl f]
  congr 1

/-- A device and its three peers, in the order in which a layer adds them, are all four devices. -/
theorem sum_peers (f : Dev nD → EReal) (c : Dev nD) :
    f c + f (peer c (step 2)) + f (peer c (step 0)) + f (peer c (step 1)) = ∑ d, f d := by
  have h : ∑ d, f d = f 0 + f 1 + f 2 + f 3 := Fin.sum_univ_four f
  rw [h]
  fin_cases c
  · show f 0 + f 3 + f 1 + f 2 = _; ac_rfl
  · show f 1 + f 0 + f 2 + f 3 = _; ac_rfl
  · show f 2 + f 1 + f 3 + f 0 = _; ac_rfl
  · show f 3 + f 2 + f 0 + f 1 = _; ac_rfl

/-- One layer at an index: all devices' partial products, the rectifier, and the device's columns of the second weights. -/
theorem next_apply (X : Dev nD → FVec Ideal S64x512 .f32) (l : Fin 3) (c : Dev nD) (i : Fin 64) (j : Fin 512) :
    next m X l c (ix2 i j)
      = ∑ k : Fin 1024, max (∑ d : Dev nD, ∑ q : Fin 512, X d (ix2 i q) * win m l d (ix2 q k)) 0 * wout m l c (ix2 k j) := by
  have hc (s : Fin 3) (h : Fin 2) (x : Fin 512) :
      commLdOf m X l s h c (ix4 0 0 i x) = part m X l (peer c (step s)) (ix2 i (col h x)) := commLd_read m X l s h c i x
  have hp (k : Fin 1024) : ∑ d : Dev nD, ∑ q : Fin 512, X d (ix2 i q) * win m l d (ix2 q k) = ∑ d : Dev nD, part m X l d (ix2 i k) :=
    Finset.sum_congr rfl fun d _ => (part_apply m X l d i k).symm
  simp only [hp]
  rw [sum_halves]
  unfold next
  rw [layerVal_apply]
  congr 1 <;> refine Finset.sum_congr rfl fun x _ => ?_
  · rw [hc, hc, hc, woutLd_read, ← sum_peers (fun d => part m X l d (ix2 i (col 0 x))) c]
    rfl
  · rw [hc, hc, hc, woutLd_read, ← sum_peers (fun d => part m X l d (ix2 i (col 1 x))) c]
    rfl

end Cert.Mlp
-- ==== Proof.Whole.lean ====
/-
One layer of the reference, and the equation of the layer: where every device holds its block of the activation and of the
weights, a layer of the kernel leaves every device its block of the reference's layer.
-/
module

public import proofs.«01_k».proof.Proof.OneLayer
public import proofs.«01_k».proof.Proof.Gen.ReferenceIdeal
public import proofs.«01_k».proof.Proof.Gen.ReferenceIdeal.Run
public import Idealize.ShloMosaic.Lib.Layout

@[expose] public section

noncomputable section

namespace Cert.Mlp

open Idealize.ShloMosaic
open Idealize.ShloMosaic.TcCoe

/-- The whole activation and the whole weights. -/
abbrev Act : Type := FVec Ideal ⟨2, ![64, 2048]⟩ .f32
abbrev WIn : Type := FVec Ideal ⟨2, ![2048, 1024]⟩ .f32
abbrev WOut : Type := FVec Ideal ⟨2, ![1024, 2048]⟩ .f32

open Cert.ReferenceIdeal Cert.ReferenceIdeal.Gen in
/-- A layer of the reference: the product with the first weights, the rectifier, the product with the second. -/
def refLayer (Y : Act) (W : WIn) (V : WOut) : Act :=
  Host.dotGeneral dot_S64x1024_S1024x2048_S64x2048_1_0_0_1_n_n none
    (maximumf (Host.dotGeneral dot_S64x2048_S2048x1024_S64x1024_1_0_0_1_n_n none Y W : FVec Ideal S64x1024 .f32)
      (broadcastInDim S64x1024 ![] bcast_S_S64x1024 (constant S_ .f32 0x00000000#32))) V

/-- It at an index. -/
theorem refLayer_apply (Y : Act) (W : WIn) (V : WOut) (i : Fin 64) (j : Fin 2048) :
    refLayer Y W V (ix2 i j) = ∑ k : Fin 1024, max (∑ q : Fin 2048, Y (ix2 i q) * W (ix2 q k)) 0 * V (ix2 k j) := by
  pointwise [refLayer]

/-- Position `q` of device `d`'s block. -/
def blk (d : Fin 4) (q : Fin 512) : Fin 2048 := ⟨d.val * 512 + q.val, by omega⟩

/-- Device `d`'s block of columns, and of rows, at an index. -/
theorem cols_apply {n : ℕ} {α : Type} (d : Fin 4) (v : (⟨2, ![n, 2048]⟩ : Shape).Idx → α) (h : Layout.Tiles ⟨2, ![n, 512]⟩ ⟨2, ![n, 2048]⟩ 1 4)
    (i : Fin n) (j : Fin 512) : Layout.block ⟨2, ![n, 512]⟩ ⟨2, ![n, 2048]⟩ 1 4 d v h (ix2 i j) = v (ix2 i (blk d j)) := by
  rw [Layout.block_apply]
  congr 1
  funext a
  apply Fin.ext
  match a with
  | ⟨0, _⟩ => rfl
  | ⟨1, _⟩ => rfl
theorem rows_apply {n : ℕ} {α : Type} (d : Fin 4) (v : (⟨2, ![2048, n]⟩ : Shape).Idx → α) (h : Layout.Tiles ⟨2, ![512, n]⟩ ⟨2, ![2048, n]⟩ 0 4)
    (i : Fin 512) (j : Fin n) : Layout.block ⟨2, ![512, n]⟩ ⟨2, ![2048, n]⟩ 0 4 d v h (ix2 i j) = v (ix2 (blk d i) j) := by
  rw [Layout.block_apply]
  congr 1
  funext a
  apply Fin.ext
  match a with
  | ⟨0, _⟩ => rfl
  | ⟨1, _⟩ => rfl

/-- A sum over the 2048 positions is the sum over the devices of the sums over their blocks. -/
theorem sum_blocks (f : Fin 2048 → EReal) : ∑ d : Fin 4, ∑ q : Fin 512, f (blk d q) = ∑ x, f x := by
  rw [← Fintype.sum_prod_type' (fun d q => f (blk d q))]
  exact Fintype.sum_equiv (finProdFinEquiv (m := 4) (n := 512)) _ _ fun p => congrArg f (Fin.ext (by
    show p.1.val * 512 + p.2.val = p.2.val + 512 * p.1.val
    omega))

open Cert.KernelIdeal in
/-- The equation of a layer. -/
theorem next_block (m : (ℓ : Loc nD τ sig) → Buf (Elt Ideal) ℓ) (X : Dev nD → FVec Ideal S64x512 .f32) (l : Fin 3) (Y : Act) (W : WIn) (V : WOut)
    (hX : ∀ c, X c = Layout.block ⟨2, ![64, 512]⟩ ⟨2, ![64, 2048]⟩ 1 4 c Y)
    (hW : ∀ c, win m l c = Layout.block ⟨2, ![512, 1024]⟩ ⟨2, ![2048, 1024]⟩ 0 4 c W)
    (hV : ∀ c, wout m l c = Layout.block ⟨2, ![1024, 512]⟩ ⟨2, ![1024, 2048]⟩ 1 4 c V) (c : Dev nD) :
    next m X l c = Layout.block ⟨2, ![64, 512]⟩ ⟨2, ![64, 2048]⟩ 1 4 c (refLayer Y W V) := by
  funext x
  obtain ⟨i, j, rfl⟩ : ∃ (i : Fin 64) (j : Fin 512), x = ix2 i j := ⟨x 0, x 1, ValueIdx.eq_ix2 x⟩
  rw [next_apply]
  refine Eq.trans ?_ (cols_apply c (refLayer Y W V) _ i j).symm
  rw [refLayer_apply]
  refine Finset.sum_congr rfl fun k _ => ?_
  congr 1
  · congr 1
    refine Eq.trans ?_ (sum_blocks fun q => Y (ix2 i q) * W (ix2 q k))
    refine Finset.sum_congr rfl fun d _ => Finset.sum_congr rfl fun q _ => ?_
    rw [hX, hW]
    exact congrArg₂ (· * ·) (cols_apply d Y _ i q) (rows_apply d W _ q k)
  · rw [hV]
    exact cols_apply c V _ k j

end Cert.Mlp
-- ==== Proof.Algebraic.lean ====
/-
The value claim: three layers of the kernel are three layers of the reference, block by block.
-/
module

public import proofs.«01_k».proof.Defs
public import proofs.«01_k».proof.Proof.Whole
public import proofs.«01_k».proof.Proof.Frames

@[expose] public section

noncomputable section

namespace Cert.Mlp

open Idealize.ShloMosaic
open Idealize.ShloMosaic.TcCoe
open Idealize.SL.Sem

open Cert.KernelIdeal in
/-- What the kernel leaves on each device is its block of the reference's three layers. -/
theorem act_block (m : (ℓ : Loc nD τ sig) → Buf (Elt Ideal) ℓ) (Y : Act) (W : Fin 3 → WIn) (V : Fin 3 → WOut)
    (hX : ∀ c, x₀ m c = Layout.block ⟨2, ![64, 512]⟩ ⟨2, ![64, 2048]⟩ 1 4 c Y)
    (hW : ∀ l c, win m l c = Layout.block ⟨2, ![512, 1024]⟩ ⟨2, ![2048, 1024]⟩ 0 4 c (W l))
    (hV : ∀ l c, wout m l c = Layout.block ⟨2, ![1024, 512]⟩ ⟨2, ![1024, 2048]⟩ 1 4 c (V l)) (c : Dev nD) :
    act m 3 c = Layout.block ⟨2, ![64, 512]⟩ ⟨2, ![64, 2048]⟩ 1 4 c
      (refLayer (refLayer (refLayer Y (W 0) (V 0)) (W 1) (V 1)) (W 2) (V 2)) :=
  next_block m _ 2 _ _ _ (next_block m _ 1 _ _ _ (next_block m _ 0 _ _ _ hX (hW 0) (hV 0)) (hW 1) (hV 1)) (hW 2) (hV 2) c

/-- Over the extended reals the kernel and the reference compute the same array, each device its columns. -/
theorem algebraic : Cert.algebraic_KernelIdeal_ReferenceIdeal := fun m g m' g' _ h => by
  refine ⟨_, (θ_run _ _ _).mono (fun r hr c => ⟨(hr.1 c).1.trans (act_block m _ ![_, _, _] ![_, _, _] ?_ ?_ ?_ c), args_kept (hr.1 c).2⟩)
    (run_main (F := Ideal) m g), (θ_run Cert.ReferenceIdeal.defs _ _).mono (fun r hr => hr 0) (Cert.ReferenceIdeal.Value.run (F := Ideal) m' g')⟩
  · exact fun c => (h c).1
  · intro l c
    fin_cases l
    · exact (h c).2.1
    · exact (h c).2.2.2.1
    · exact (h c).2.2.2.2.2.1
  · intro l c
    fin_cases l
    · exact (h c).2.2.1
    · exact (h c).2.2.2.2.1
    · exact (h c).2.2.2.2.2.2

end Cert.Mlp
-- ==== Proof.lean ====
/-
The claim: the frames of the three programs, that the ideal program is the kernel's, and that over the extended reals the
kernel and the reference compute the same array.
-/
module

public import proofs.«01_k».proof.Defs
public import proofs.«01_k».proof.Proof.Frames
public import proofs.«01_k».proof.Proof.Algebraic

@[expose] public section

noncomputable section

namespace Cert.Proof

open Cert.Mlp

theorem claim : Cert.Claim := ⟨Cert.Kernel.Gen.facts, Cert.KernelIdeal.Gen.facts, Cert.ReferenceIdeal.Gen.facts,
  frame_kernel, frame_ideal, frame_reference, trivial, algebraic⟩

end Cert.Proof

end
